-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x1 : Shape := ⟨2, ![16384, 1]⟩
abbrev S16384x20 : Shape := ⟨2, ![16384, 20]⟩
abbrev S1000x128 : Shape := ⟨2, ![1000, 128]⟩
abbrev S100000x128 : Shape := ⟨2, ![100000, 128]⟩
abbrev S2688x1000 : Shape := ⟨2, ![2688, 1000]⟩
abbrev S1000 : Shape := ⟨1, ![1000]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384x20 : S_.BroadcastsInDim S16384x20 (![] : Fin 0 → Fin S16384x20.rank)
  reducesTo_S16384x20_S_d0_1 : S16384x20.ReducesTo [0, 1] S_

variable [Facts]

def fn {F : FTy → Type} [FloatOps F] (main_arg0 : IVec S16384x1 32) (main_arg1 : IVec S16384x20 32) (main_arg2 : FVec F S1000x128 .f32) (main_arg3 : FVec F S100000x128 .f32) (main_arg4 : FVec F S2688x1000 .f32) (main_arg5 : FVec F S1000 .f32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg0 main_v0
  let main_c_0 : IVec S_ 1 := constantI S_ 1 1#1
  let main_v2 : IVec S_ 1 := (fun x v => Host.reduce IntOp.andi x v reducesTo_S16384x1_S_d0_1 h_S_) main_v1 main_c_0
  let main_c_1 : IVec S_ 32 := constantI S_ 32 100000#32
  let main_v3 : IVec S16384x1 32 := broadcastInDim S16384x1 ![] bcast_S_S16384x1 main_c_1
  let main_v4 : IVec S16384x1 1 := cmpi .slt main_arg0 main_v3
  let main_c_2 : IVec S_ 1 := constantI S_ 1 1#1
  let main_v5 : IVec S_ 1 := (fun x v => Host.reduce IntOp.andi x v reducesTo_S16384x1_S_d0_1 h_S_) main_v4 main_c_2
  let main_v6 : IVec S_ 1 := andi main_v2 main_v5
  let main_c_3 : IVec S_ 32 := constantI S_ 32 0#32
  let main_v7 : IVec S16384x20 32 := broadcastInDim S16384x20 ![] bcast_S_S16384x20 main_c_3
  let main_v8 : IVec S16384x20 1 := cmpi .sge main_arg1 main_v7
  let main_c_4 : IVec S_ 1 := constantI S_ 1 1#1
  let main_v9 : IVec S_ 1 := (fun x v => Host.reduce IntOp.andi x v reducesTo_S16384x20_S_d0_1 h_S_) main_v8 main_c_4
  let main_v10 : IVec S_ 1 := andi main_v6 main_v9
  let main_c_5 : IVec S_ 32 := constantI S_ 32 1000#32
  let main_v11 : IVec S16384x20 32 := broadcastInDim S16384x20 ![] bcast_S_S16384x20 main_c_5
  let main_v12 : IVec S16384x20 1 := cmpi .slt main_arg1 main_v11
  let main_c_6 : IVec S_ 1 := constantI S_ 1 1#1
  let main_v13 : IVec S_ 1 := (fun x v => Host.reduce IntOp.andi x v reducesTo_S16384x20_S_d0_1 h_S_) main_v12 main_c_6
  let main_v14 : IVec S_ 1 := andi main_v10 main_v13
  main_v14
-- ==== Kernel.lean ====
abbrev S16384x1 : Shape := ⟨2, ![16384, 1]⟩
abbrev S16384x20 : Shape := ⟨2, ![16384, 20]⟩
abbrev S1000x128 : Shape := ⟨2, ![1000, 128]⟩
abbrev S100000x128 : Shape := ⟨2, ![100000, 128]⟩
abbrev S2688x1000 : Shape := ⟨2, ![2688, 1000]⟩
abbrev S1000 : Shape := ⟨1, ![1000]⟩
abbrev S327680 : Shape := ⟨1, ![327680]⟩
abbrev S16384 : Shape := ⟨1, ![16384]⟩
abbrev S327680x128 : Shape := ⟨2, ![327680, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16384x2560 : Shape := ⟨2, ![16384, 2560]⟩
abbrev S2560x1000 : Shape := ⟨2, ![2560, 1000]⟩
abbrev S128x1000 : Shape := ⟨2, ![128, 1000]⟩
abbrev S1x1000 : Shape := ⟨2, ![1, 1000]⟩
abbrev S16384x1000 : Shape := ⟨2, ![16384, 1000]⟩
abbrev S512x2560 : Shape := ⟨2, ![512, 2560]⟩
abbrev S512x1000 : Shape := ⟨2, ![512, 1000]⟩
abbrev S512x1 : Shape := ⟨2, ![512, 1]⟩

abbrev nBuf : Table → Nat
  | .hbm => 17
  | .local .tc .vmem => 9
  | .local .scVector .vmem => 2
  | _ => 0

abbrev bufTy : (tb : Table) → Fin (nBuf tb) → BufTy
  | .hbm, ⟨0, _⟩ => ⟨S16384x1, .i32⟩
  | .hbm, ⟨1, _⟩ => ⟨S16384x20, .i32⟩
  | .hbm, ⟨2, _⟩ => ⟨S1000x128, .f32⟩
  | .hbm, ⟨3, _⟩ => ⟨S100000x128, .f32⟩
  | .hbm, ⟨4, _⟩ => ⟨S2688x1000, .f32⟩
  | .hbm, ⟨5, _⟩ => ⟨S1000, .f32⟩
  | .hbm, ⟨6, _⟩ => ⟨S327680, .i32⟩
  | .hbm, ⟨7, _⟩ => ⟨S16384, .i32⟩
  | .hbm, ⟨8, _⟩ => ⟨S327680x128, .f32⟩
  | .hbm, ⟨9, _⟩ => ⟨S16384x128, .f32⟩
  | .hbm, ⟨10, _⟩ => ⟨S16384x2560, .f32⟩
  | .hbm, ⟨11, _⟩ => ⟨S2560x1000, .f32⟩
  | .hbm, ⟨12, _⟩ => ⟨S2560x1000, .bf16⟩
  | .hbm, ⟨13, _⟩ => ⟨S128x1000, .f32⟩
  | .hbm, ⟨14, _⟩ => ⟨S128x1000, .bf16⟩
  | .hbm, ⟨15, _⟩ => ⟨S1x1000, .f32⟩
  | .hbm, ⟨16, _⟩ => ⟨S16384x1000, .f32⟩
  | .local .tc .vmem, ⟨0, _⟩ => ⟨S512x2560, .f32⟩
  | .local .tc .vmem, ⟨1, _⟩ => ⟨S512x2560, .f32⟩
  | .local .tc .vmem, ⟨2, _⟩ => ⟨S512x128, .f32⟩
  | .local .tc .vmem, ⟨3, _⟩ => ⟨S512x128, .f32⟩
  | .local .tc .vmem, ⟨4, _⟩ => ⟨S2560x1000, .bf16⟩
  | .local .tc .vmem, ⟨5, _⟩ => ⟨S128x1000, .bf16⟩
  | .local .tc .vmem, ⟨6, _⟩ => ⟨S1x1000, .f32⟩
  | .local .tc .vmem, ⟨7, _⟩ => ⟨S512x1000, .f32⟩
  | .local .tc .vmem, ⟨8, _⟩ => ⟨S512x1000, .f32⟩
  | .local .scVector .vmem, ⟨0, _⟩ => ⟨S512, .i32⟩
  | .local .scVector .vmem, ⟨1, _⟩ => ⟨S512x128, .f32⟩
  | _, _ => ⟨S16384x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v0_scv : Ref sig .scVector := ⟨.hbm, 6, rfl⟩
abbrev main_v1_scv : Ref sig .scVector := ⟨.hbm, 7, rfl⟩
abbrev main_arg2_scv : Ref sig .scVector := ⟨.hbm, 2, rfl⟩
abbrev main_arg3_scv : Ref sig .scVector := ⟨.hbm, 3, rfl⟩
abbrev main_v2_0_scv : Ref sig .scVector := ⟨.hbm, 8, rfl⟩
abbrev main_v2_1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  let c0_i32_6_r1 : BitVec 32 := 0#32
  ![v3.toNat, 0]
@[reducible] def k0_t1_loop : Scf.Loop 32 :=
  let c0_i32_4 : BitVec 32 := 0#32
  let c20_i32 : BitVec 32 := 20#32
  let v7 : BitVec 32 := Scalar.addi c0_i32_4 c20_i32
  let c1_i32 : BitVec 32 := 1#32
  ⟨c0_i32_4, v7, c1_i32⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v6 : BitVec 32 := Scalar.muli v1 c10240_i32
  let c0_i32_4 : BitVec 32 := 0#32
  let c1_i32 : BitVec 32 := 1#32
  let arg11 : BitVec 32 := Scf.iv c0_i32_4 c1_i32 k0_t1
  let c512_i32_6 : BitVec 32 := 512#32
  let v8 : BitVec 32 := Scalar.muli arg11 c512_i32_6
  let v9 : BitVec 32 := Scalar.addi v6 v8
  v9
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v6 : BitVec 32 := Scalar.muli v1 c10240_i32
  let c0_i32_4 : BitVec 32 := 0#32
  let c1_i32 : BitVec 32 := 1#32
  let arg11 : BitVec 32 := Scf.iv c0_i32_4 c1_i32 k0_t1
  let c512_i32_6 : BitVec 32 := 512#32
  let v8 : BitVec 32 := Scalar.muli arg11 c512_i32_6
  let v9 : BitVec 32 := Scalar.addi v6 v8
  let v10 : BitVec 32 := v9
  ![v10.toNat]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v6 : BitVec 32 := Scalar.muli v1 c10240_i32
  let c0_i32_4 : BitVec 32 := 0#32
  let c1_i32 : BitVec 32 := 1#32
  let arg11 : BitVec 32 := Scf.iv c0_i32_4 c1_i32 k0_t1
  let c512_i32_6 : BitVec 32 := 512#32
  let v8 : BitVec 32 := Scalar.muli arg11 c512_i32_6
  let v9 : BitVec 32 := Scalar.addi v6 v8
  let v10 : BitVec 32 := v9
  let c0_i32_11_r3 : BitVec 32 := 0#32
  ![v10.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2560x1000 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1000 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1 : Shape := ⟨2, ![16384, 1]⟩
abbrev S16384x20 : Shape := ⟨2, ![16384, 20]⟩
abbrev S1000x128 : Shape := ⟨2, ![1000, 128]⟩
abbrev S100000x128 : Shape := ⟨2, ![100000, 128]⟩
abbrev S2688x1000 : Shape := ⟨2, ![2688, 1000]⟩
abbrev S1000 : Shape := ⟨1, ![1000]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩
abbrev S16384x1x1 : Shape := ⟨3, ![16384, 1, 1]⟩
abbrev S16384x1x128 : Shape := ⟨3, ![16384, 1, 128]⟩
abbrev S16384x21x128 : Shape := ⟨3, ![16384, 21, 128]⟩
abbrev S16384x2688 : Shape := ⟨2, ![16384, 2688]⟩
abbrev S16384x1000 : Shape := ⟨2, ![16384, 1000]⟩
abbrev S1x1000 : Shape := ⟨2, ![1, 1000]⟩
abbrev S16384 : Shape := ⟨1, ![16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S16384x20, .i32⟩
  | .hbm, ⟨2, _⟩ => ⟨S1000x128, .f32⟩
  | .hbm, ⟨3, _⟩ => ⟨S100000x128, .f32⟩
  | .hbm, ⟨4, _⟩ => ⟨S2688x1000, .f32⟩
  | .hbm, ⟨5, _⟩ => ⟨S1000, .f32⟩
  | .hbm, ⟨6, _⟩ => ⟨S_, .i32⟩
  | .hbm, ⟨7, _⟩ => ⟨S16384x20, .i32⟩
  | .hbm, ⟨8, _⟩ => ⟨S16384x20, .i1⟩
  | .hbm, ⟨9, _⟩ => ⟨S_, .i32⟩
  | .hbm, ⟨10, _⟩ => ⟨S16384x20, .i32⟩
  | .hbm, ⟨11, _⟩ => ⟨S16384x20, .i32⟩
  | .hbm, ⟨12, _⟩ => ⟨S16384x20, .i32⟩
  | .hbm, ⟨13, _⟩ => ⟨S16384x20x1, .i32⟩
  | .hbm, ⟨14, _⟩ => ⟨S1, .i32⟩
  | .hbm, ⟨15, _⟩ => ⟨S_, .i32⟩
  | .hbm, ⟨16, _⟩ => ⟨S16384x20x1, .i32⟩
  | .hbm, ⟨17, _⟩ => ⟨S16384x20x1, .i1⟩
  | .hbm, ⟨18, _⟩ => ⟨S1x1x1, .i32⟩
  | .hbm, ⟨19, _⟩ => ⟨S16384x20x1, .i32⟩
  | .hbm, ⟨20, _⟩ => ⟨S16384x20x1, .i1⟩
  | .hbm, ⟨21, _⟩ => ⟨S16384x20x1, .i1⟩
  | .hbm, ⟨22, _⟩ => ⟨S_, .i1⟩
  | .hbm, ⟨23, _⟩ => ⟨S16384x20, .i1⟩
  | .hbm, ⟨24, _⟩ => ⟨S16384x20x128, .f32⟩
  | .hbm, ⟨25, _⟩ => ⟨S16384x20x128, .i1⟩
  | .hbm, ⟨26, _⟩ => ⟨S_, .f32⟩
  | .hbm, ⟨27, _⟩ => ⟨S16384x20x128, .f32⟩
  | .hbm, ⟨28, _⟩ => ⟨S16384x20x128, .f32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S_, .i32⟩
  | .hbm, ⟨33, _⟩ => ⟨S16384x1, .i32⟩
  | .hbm, ⟨34, _⟩ => ⟨S16384x1, .i32⟩
  | .hbm, ⟨35, _⟩ => ⟨S16384x1, .i32⟩
  | .hbm, ⟨36, _⟩ => ⟨S16384x1x1, .i32⟩
  | .hbm, ⟨37, _⟩ => ⟨S1, .i32⟩
  | .hbm, ⟨38, _⟩ => ⟨S_, .i32⟩
  | .hbm, ⟨39, _⟩ => ⟨S16384x1x1, .i32⟩
  | .hbm, ⟨40, _⟩ => ⟨S16384x1x1, .i1⟩
  | .hbm, ⟨41, _⟩ => ⟨S1x1x1, .i32⟩
  | .hbm, ⟨42, _⟩ => ⟨S16384x1x1, .i32⟩
  | .hbm, ⟨43, _⟩ => ⟨S16384x1x1, .i1⟩
  | .hbm, ⟨44, _⟩ => ⟨S16384x1x1, .i1⟩
  | .hbm, ⟨45, _⟩ => ⟨S_, .i1⟩
  | .hbm, ⟨46, _⟩ => ⟨S16384x1, .i1⟩
  | .hbm, ⟨47, _⟩ => ⟨S16384x1x128, .f32⟩
  | .hbm, ⟨48, _⟩ => ⟨S16384x1x128, .i1⟩
  | .hbm, ⟨49, _⟩ => ⟨S_, .f32⟩
  | .hbm, ⟨50, _⟩ => ⟨S16384x1x128, .f32⟩
  | .hbm, ⟨51, _⟩ => ⟨S16384x1x128, .f32⟩
  | .hbm, ⟨52, _⟩ => ⟨S16384x21x128, .f32⟩
  | .hbm, ⟨53, _⟩ => ⟨S16384x2688, .f32⟩
  | .hbm, ⟨54, _⟩ => ⟨S16384x1000, .f32⟩
  | .hbm, ⟨55, _⟩ => ⟨S1x1000, .f32⟩
  | .hbm, ⟨56, _⟩ => ⟨S16384x1000, .f32⟩
  | .hbm, ⟨57, _⟩ => ⟨S16384x1000, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384x1, .f32⟩
  | .hbm, ⟨64, _⟩ => ⟨S16384x1000, .f32⟩
  | .hbm, ⟨65, _⟩ => ⟨S16384x1000, .f32⟩
  | .hbm, ⟨66, _⟩ => ⟨S16384x1000, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1000, .f32⟩
  | .hbm, ⟨71, _⟩ => ⟨S16384x1000, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst_1 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩

abbrev nD : Nat := 1
abbrev τ : Topo := Topo.v7x

variable {F : FTy → Type} [FloatOps F]
-- ==== Proof.Range.lean ====
/-
  Row numbers in range: what the precondition, computed all ones, says of the two arrays of numbers, and the conjunction of a mask along
  axes that it and the reference compute.
-/
module

public import proofs.«01_k».proof.Defs
public import proofs.«01_k».proof.Proof.Gen.Pre_in_range
public import Idealize.ShloMosaic.Lib.StableHlo.Predicate

@[expose] public section

noncomputable section

namespace Cert.Range

open Idealize.ShloMosaic Cert.Pre_in_range Cert.Pre_in_range.Gen

/-- A conjunction of two bits is one where both are. -/
theorem andi_one (p q : BitVec 1) : IntOp.andi p q = 1#1 ↔ p = 1#1 ∧ q = 1#1 := by
  revert p q; decide

/-- A mask's conjunction along axes is one where the starting bit is and every bit that falls there is. -/
theorem all_iff {s t u : Shape} {axes : List (Fin s.rank)} (x : IVec s 1) (init : IVec u 1) (h : s.ReducesTo axes t) (hu : 0 < u.numel) (j : t.Idx) :
    Host.reduce IntOp.andi x init h hu j = 1#1 ↔ init (Shape.Idx.first hu) = 1#1 ∧ ∀ i, h.drop i = j → x i = 1#1 := by
  rw [Host.reduce_eq_fold, Finset.fold_op_rel_iff_and (r := fun _ y => y = 1#1) (c := 1#1) (fun {_ p q} => andi_one p q)]
  simp

/-- A word at least 0 and below `n`, both as signed words: below `n` as a natural number. -/
theorem toNat_lt_of_signed {v : BitVec 32} {n : Nat} (hn : n < 2 ^ 31) (h0 : IntOp.cmpi .sge v 0#32 = 1#1)
    (h1 : IntOp.cmpi .slt v (BitVec.ofNat 32 n) = 1#1) : v.toNat < n := by
  have e : (BitVec.ofNat 32 n).toInt = n := StableHlo.Predicate.toInt_ofNat_small n hn
  simp only [IntOp.cmpi, StableHlo.Predicate.ofBool_eq_one_iff, BitVec.sle_eq_decide, BitVec.slt_eq_decide, decide_eq_true_eq] at h0 h1
  rw [e] at h1
  rw [show (0#32 : BitVec 32).toInt = 0 from by decide] at h0
  rw [BitVec.toInt_eq_toNat_cond] at h0 h1
  split at h0 <;> omega

variable {F : FTy → Type} [FloatOps F]

/-- The precondition's two bounds: every trace number is below 100000, every activity number below 1000. -/
theorem of_pre (tr : IVec S16384x1 32) (act : IVec S16384x20 32) (ta : FVec F S1000x128 .f32) (tt : FVec F S100000x128 .f32)
    (w : FVec F S2688x1000 .f32) (b : FVec F S1000 .f32) (h : Cert.Pre_in_range.fn (F := F) tr act ta tt w b = fun _ => 1#1) :
    (∀ i, (tr i).toNat < 100000) ∧ ∀ i, (act i).toNat < 1000 := by
  have e := congrFun h (fun k => k.elim0)
  simp only [Cert.Pre_in_range.fn, andi, andi_one, all_iff] at e
  obtain ⟨⟨⟨⟨-, a⟩, ⟨-, b⟩⟩, ⟨-, c⟩⟩, ⟨-, d⟩⟩ := e
  have here (j : S_.Idx) : j = (fun k => k.elim0) := funext fun k => k.elim0
  exact ⟨fun i => toNat_lt_of_signed (by norm_num) (a i (here _)) (b i (here _)),
    fun i => toNat_lt_of_signed (by norm_num) (c i (here _)) (d i (here _))⟩

end Cert.Range

end
-- ==== Proof.ScKI.lean ====
/-
  The SparseCore call of the kernel: thirty-two tasks, one per tile of the two SparseCores. Task `(c, s)` has number
  `w = 2 s + c`. It fetches its 512 trace numbers, gathers those rows of the trace table and writes them out as its
  block of the trace rows; then, twenty times, it fetches 512 activity numbers, gathers those rows of the activity table
  and writes them out as one chunk of the activity rows. Here: what the launch hands each task, that a task runs from it
  and leaves its rows at the gathered values, and that the launch's operands are exactly the tasks' parts together.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueIdxCore
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Sc

open Cert.KernelIdeal Cert.KernelIdeal.Gen

open Idealize.ShloMosaic Idealize.ShloMosaic.ValueIdx Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 1) fun p => (pcfgs (F := F) p).Adm
abbrev K : SparseCore.Cfg τ sig (ΛP (F := F)) 1 := sc (F := F)
/-- The launch uses two SparseCores. -/
theorem nCore_zero : (K (F := F)).nCore 0 = 2 := rfl
/-- The launch uses sixteen tiles on each SparseCore. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and none of a kernel's; no tile buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ)

abbrev actLoc (d : Dev nD) : Loc nD τ sig := (SparseCore.T d).loc main_v0
abbrev trLoc (d : Dev nD) : Loc nD τ sig := (SparseCore.T d).loc main_v1
abbrev tabALoc (d : Dev nD) : Loc nD τ sig := (SparseCore.T d).loc main_arg2
abbrev tabTLoc (d : Dev nD) : Loc nD τ sig := (SparseCore.T d).loc main_arg3
abbrev outALoc (d : Dev nD) : Loc nD τ sig := (SparseCore.T d).loc main_v2_0
abbrev outTLoc (d : Dev nD) : Loc nD τ sig := (SparseCore.T d).loc main_v2_1

local notation "actV" => (Memref.whole Cert.KernelIdeal.main_v0_scv : Memref Cert.KernelIdeal.sig Kind.scVector Space.hbm Cert.KernelIdeal.S327680 EltTy.i32)
local notation "trV" => (Memref.whole Cert.KernelIdeal.main_v1_scv : Memref Cert.KernelIdeal.sig Kind.scVector Space.hbm Cert.KernelIdeal.S16384 EltTy.i32)
local notation "tabAV" => (Memref.whole Cert.KernelIdeal.main_arg2_scv : Memref Cert.KernelIdeal.sig Kind.scVector Space.hbm Cert.KernelIdeal.S1000x128 EltTy.f32)
local notation "tabTV" => (Memref.whole Cert.KernelIdeal.main_arg3_scv : Memref Cert.KernelIdeal.sig Kind.scVector Space.hbm Cert.KernelIdeal.S100000x128 EltTy.f32)
local notation "outAV" => (Memref.whole Cert.KernelIdeal.main_v2_0_scv : Memref Cert.KernelIdeal.sig Kind.scVector Space.hbm Cert.KernelIdeal.S327680x128 EltTy.f32)
local notation "outTV" => (Memref.whole Cert.KernelIdeal.main_v2_1_scv : Memref Cert.KernelIdeal.sig Kind.scVector Space.hbm Cert.KernelIdeal.S16384x128 EltTy.f32)
local notation "lstV" => (Memref.whole Cert.KernelIdeal.cc0_scratch0 : Memref Cert.KernelIdeal.sig Kind.scVector Space.vmem Cert.KernelIdeal.S512 EltTy.i32)
local notation "rowV" => (Memref.whole Cert.KernelIdeal.cc0_scratch1 : Memref Cert.KernelIdeal.sig Kind.scVector Space.vmem Cert.KernelIdeal.S512x128 EltTy.f32)

/-! ## The blocks -/

/-- The activity rows fall into 640 equal chunks. -/
theorem adiv : 640 ∣ S327680x128.size 0 := ⟨512, rfl⟩
/-- The trace rows fall into 32 equal blocks. -/
theorem tdiv : 32 ∣ S16384x128.size 0 := ⟨512, rfl⟩
abbrev aRect (n : Fin 640) : Rect S327680x128 := Rect.part (s := S327680x128) (a₀ := 0) adiv n
abbrev tRect (n : Fin 32) : Rect S16384x128 := Rect.part (s := S16384x128) (a₀ := 0) tdiv n
/-- Chunk `k` of task `(c, s)`'s activity rows, among the 640 chunks of 512 rows. -/
abbrev aIx (c : Fin 2) (s : Fin 16) (k : Fin 20) : Fin 640 := ⟨20 * (2 * s.val + c.val) + k.val, by omega⟩
/-- Task `(c, s)`'s block of the trace rows, among the 32 blocks of 512 rows. -/
abbrev tIx (c : Fin 2) (s : Fin 16) : Fin 32 := ⟨2 * s.val + c.val, by omega⟩
abbrev aSet (n : Fin 640) : Finset S327680x128.Idx := (aRect n).set
abbrev tSet (n : Fin 32) : Finset S16384x128.Idx := (tRect n).set

/-- Task `(c, s)`'s share of what all tasks read. -/
abbrev shr (c : Fin 2) (s : Fin 16) : PosShare TreeShare := leaf 5 fullShare ⟨16 * c.val + s.val, by omega⟩

/-! ## What the call computes -/

variable (xA : (d : Dev nD) → Buf (Elt F) (actLoc d)) (xT : (d : Dev nD) → Buf (Elt F) (trLoc d))

/-- Row `r` of a table of `n` rows at the row number `w`. -/
def rowOf {n k : Nat} (hn : 0 < n) {α : Type} (tab : (⟨2, ![n, k]⟩ : Shape).Idx → α) (w : BitVec 32) (j : Fin k) : α :=
  tab (ix2 ⟨w.toNat % n, Nat.mod_lt _ hn⟩ j)

/-- The activity rows: row `r` is the activity table's at the `r`-th activity number. -/
def rowsA (tab : S1000x128.Idx → Elt F .f32) (ix : S327680.Idx → BitVec 32) : S327680x128.Idx → Elt F .f32 :=
  fun x => rowOf (n := 1000) (k := 128) (by decide) tab (ix (ix1 (x 0))) (x 1)
/-- The trace rows: row `r` is the trace table's at the `r`-th trace number. -/
def rowsT (tab : S100000x128.Idx → Elt F .f32) (ix : S16384.Idx → BitVec 32) : S16384x128.Idx → Elt F .f32 :=
  fun x => rowOf (n := 100000) (k := 128) (by decide) tab (ix (ix1 (x 0))) (x 1)

abbrev gA (d : Dev nD) : Buf (Elt F) (outALoc d) := rowsA (m (tabALoc d)) (xA d)
abbrev gT (d : Dev nD) : Buf (Elt F) (outTLoc d) := rowsT (m (tabTLoc d)) (xT d)

variable [FloatOps F]

/-! ## What the handshakes carry -/

abbrev readPts (d : Dev nD) (c : Fin 2) (s : Fin 16) : sProp 𝕄 :=
  iprop((actLoc d ↦{shr c s} xA d) ∗ (trLoc d ↦{shr c s} xT d) ∗ (tabALoc d ↦{shr c s} m (tabALoc d)) ∗ (tabTLoc d ↦{shr c s} m (tabTLoc d)))
abbrev outPts (d : Dev nD) (c : Fin 2) (s : Fin 16) (f : Buf (Elt F) (outALoc d)) (g : Buf (Elt F) (outTLoc d)) : sProp 𝕄 :=
  iprop((bigSep Finset.univ fun k : Fin 20 => outALoc d ↦[aSet (aIx c s k)]{fullShare} f) ∗ (outTLoc d ↦[tSet (tIx c s)]{fullShare} g))
/-- What task `(c, s)` starts from. -/
abbrev before (d : Dev nD) (c : Fin 2) (s : Fin 16) : sProp 𝕄 :=
  iprop(readPts m xA xT d c s ∗ outPts d c s (m (outALoc d)) (m (outTLoc d)))
/-- What task `(c, s)` ends with. -/
abbrev after (d : Dev nD) (c : Fin 2) (s : Fin 16) : sProp 𝕄 :=
  iprop(readPts m xA xT d c s ∗ outPts d c s (gA m xA d) (gT m xT d))

/-- Each SparseCore takes its sixteen tasks' parts, each task its own, and brings them back with its rows gathered. -/
def P : (K (F := F)).Pay (nD := nD) (Val := Elt F) (Name := ℕ) (U := UU) where
  st := fun q d c => match q with | 0 => bigSep Finset.univ fun s : Fin 16 => before m xA xT d (Fin.cast nCore_zero c) s
  dn := fun q d c => match q with | 0 => bigSep Finset.univ fun s : Fin 16 => after m xA xT d (Fin.cast nCore_zero c) s
  go := fun q d c i => match q with | 0 => before m xA xT d (Fin.cast nCore_zero c) (Fin.cast nSub_zero i)
  td := fun q d c i => match q with | 0 => after m xA xT d (Fin.cast nCore_zero c) (Fin.cast nSub_zero i)
  x := fun _ _ => iprop(emp)

instance P_storable : (P (F := F) m xA xT).IsStorable where
  st q d c := match q with
    | 0 => (inferInstance : BI.Storable (upEmb : UEmb _ 𝕄) (bigSep Finset.univ fun s : Fin 16 => before m xA xT d (Fin.cast nCore_zero c) s))
  dn q d c := match q with
    | 0 => (inferInstance : BI.Storable (upEmb : UEmb _ 𝕄) (bigSep Finset.univ fun s : Fin 16 => after m xA xT d (Fin.cast nCore_zero c) s))
  go q d c i := match q with
    | 0 => (inferInstance : BI.Storable (upEmb : UEmb _ 𝕄) (before m xA xT d (Fin.cast nCore_zero c) (Fin.cast nSub_zero i)))
  td q d c i := match q with
    | 0 => (inferInstance : BI.Storable (upEmb : UEmb _ 𝕄) (after m xA xT d (Fin.cast nCore_zero c) (Fin.cast nSub_zero i)))

/-- Every activity number and every trace number names a row of its table. -/
def InRange : Prop := (∀ (d : Dev nD) (j : S327680.Idx), (xA d j).toNat < 1000) ∧ ∀ (d : Dev nD) (j : S16384.Idx), (xT d j).toNat < 100000

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
/-- The first grid coordinate ranges over two cores. -/
theorem bound_zero : grid0.bound 0 = 2 := rfl
omit [FloatOps F] in
/-- The second grid coordinate ranges over sixteen tiles. -/
theorem bound_one : grid0.bound 1 = 16 := rfl
abbrev cL (L : grid0.Coords) : Fin 2 := Fin.cast bound_zero (L 0)
abbrev sL (L : grid0.Coords) : Fin 16 := Fin.cast bound_one (L 1)

omit [FloatOps F] in
/-- A tile's loop makes twenty trips. -/
theorem trips_eq : k0_t1_loop.trips = 20 := by decide
abbrev kL (t : Fin k0_t1_loop.trips) : Fin 20 := Fin.cast trips_eq t

/-- The task's 512 trace numbers, its block of the trace rows, trip `t`'s 512 activity numbers and its chunk of the
    activity rows, as the task addresses them. -/
abbrev trK (L : grid0.Coords) : Memref sig .scVector .hbm S512 .i32 := (trV).slice (Rect.unit (s := S16384) (k0_off1 L) S512.size (k0_off1_inb L)) (fun _ => rfl)
abbrev outTK (L : grid0.Coords) : Memref sig .scVector .hbm S512x128 .f32 := (outTV).slice (Rect.unit (s := S16384x128) (k0_off2 L) S512x128.size (k0_off2_inb L)) (fun _ => rfl)
abbrev actK (L : grid0.Coords) (t : Fin k0_t1_loop.trips) : Memref sig .scVector .hbm S512 .i32 := (actV).slice (Rect.unit (s := S327680) (k0_off3 L t) S512.size (k0_off3_inb L t)) (fun _ => rfl)
abbrev outAK (L : grid0.Coords) (t : Fin k0_t1_loop.trips) : Memref sig .scVector .hbm S512x128 .f32 := (outAV).slice (Rect.unit (s := S327680x128) (k0_off4 L t) S512x128.size (k0_off4_inb L t)) (fun _ => rfl)
abbrev tabTK : Memref sig .scVector .hbm S100000x128 .f32 := (tabTV).slice (Rect.unit (s := S100000x128) ![0, 0] S100000x128.size inb_S100000x128_S100000x128_0_0) (fun _ => rfl)
abbrev tabAK : Memref sig .scVector .hbm S1000x128 .f32 := (tabAV).slice (Rect.unit (s := S1000x128) ![0, 0] S1000x128.size inb_S1000x128_S1000x128_0_0) (fun _ => rfl)

omit [FloatOps F] in
/-- The rectangle of trace rows a tile writes is the block with its number. -/
theorem outTK_rect : Rect.unit (s := S16384x128) (k0_off2 L) S512x128.size (k0_off2_inb L) = tRect (tIx (cL L) (sL L)) := by
  unfold tRect Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]
omit [FloatOps F] in
/-- The rectangle of activity rows written on a trip is the chunk with its number. -/
theorem outAK_rect (t : Fin k0_t1_loop.trips) :
    Rect.unit (s := S327680x128) (k0_off4 L t) S512x128.size (k0_off4_inb L t) = aRect (aIx (cL L) (sL L) (kL t)) := by
  unfold aRect Rect.part Rect.block
  congr 1 <;> funext a
  · rw [k0_off4_eq]
    match a with
    | 0 => simp [Shape.partIx, Shape.partSize]; omega
    | 1 => simp [Shape.partIx, Shape.partSize]
  · match a with
    | 0 => simp [Shape.partSize]
    | 1 => simp [Shape.partSize]

omit [FloatOps F] in
/-- The places of the tile's trace block. -/
theorem set_outTK : (outTK L).view.set = tSet (tIx (cL L) (sL L)) := by
  show ((View.whole (main_v2_1_scv : Ref sig .scVector)).slice _).set = _
  rw [View.set_slice, outTK_rect]; exact Finset.map_refl
omit [FloatOps F] in
/-- The places of the trip's activity chunk. -/
theorem set_outAK (t : Fin k0_t1_loop.trips) : (outAK L t).view.set = aSet (aIx (cL L) (sL L) (kL t)) := by
  show ((View.whole (main_v2_0_scv : Ref sig .scVector)).slice _).set = _
  rw [View.set_slice, outAK_rect]; exact Finset.map_refl

omit [FloatOps F] in
/-- Holding the tile's trace block through its view is holding it in the array. -/
theorem pts_outTK (f : Buf (Elt F) (outTLoc d)) :
    ((outTK L).view.loc (V d (cV L) (jV L)) ↦[(outTK L).view.set]{fullShare} f : sProp 𝕄) = outTLoc d ↦[tSet (tIx (cL L) (sL L))]{fullShare} f := by
  rw [set_outTK]
omit [FloatOps F] in
/-- Holding the trip's activity chunk through its view is holding it in the array. -/
theorem pts_outAK (t : Fin k0_t1_loop.trips) (f : Buf (Elt F) (outALoc d)) :
    ((outAK L t).view.loc (V d (cV L) (jV L)) ↦[(outAK L t).view.set]{fullShare} f : sProp 𝕄) = outALoc d ↦[aSet (aIx (cL L) (sL L) (kL t))]{fullShare} f := by
  rw [set_outAK]
omit [FloatOps F] in
/-- A share of the activity indices, held through the view or in the array. -/
theorem pts_actV (q : PosShare TreeShare) (f : Buf (Elt F) (actLoc d)) :
    ((actV).view.loc (V d (cV L) (jV L)) ↦{q} f : sProp 𝕄) = actLoc d ↦{q} f := rfl
omit [FloatOps F] in
/-- A share of the trace indices, held through the view or in the array. -/
theorem pts_trV (q : PosShare TreeShare) (f : Buf (Elt F) (trLoc d)) :
    ((trV).view.loc (V d (cV L) (jV L)) ↦{q} f : sProp 𝕄) = trLoc d ↦{q} f := rfl
omit [FloatOps F] in
/-- A share of the activity table, held through the view or in the array. -/
theorem pts_tabAV (q : PosShare TreeShare) (f : Buf (Elt F) (tabALoc d)) :
    ((tabAV).view.loc (V d (cV L) (jV L)) ↦{q} f : sProp 𝕄) = tabALoc d ↦{q} f := rfl
omit [FloatOps F] in
/-- A share of the trace table, held through the view or in the array. -/
theorem pts_tabTV (q : PosShare TreeShare) (f : Buf (Elt F) (tabTLoc d)) :
    ((tabTV).view.loc (V d (cV L) (jV L)) ↦{q} f : sProp 𝕄) = tabTLoc d ↦{q} f := rfl
omit [FloatOps F] in
/-- The tile's index list, held through the view or in the buffer. -/
theorem pts_lstV (f : Buf (Elt F) ((V d (cV L) (jV L)).loc cc0_scratch0)) :
    ((lstV).view.loc (V d (cV L) (jV L)) ↦{fullShare} f : sProp 𝕄) = (V d (cV L) (jV L)).loc cc0_scratch0 ↦{fullShare} f := rfl
omit [FloatOps F] in
/-- The tile's row buffer, held through the view or in the buffer. -/
theorem pts_rowV (f : Buf (Elt F) ((V d (cV L) (jV L)).loc cc0_scratch1)) :
    ((rowV).view.loc (V d (cV L) (jV L)) ↦{fullShare} f : sProp 𝕄) = (V d (cV L) (jV L)).loc cc0_scratch1 ↦{fullShare} f := rfl

/-- The task's five DMA semaphores: the gathers', and one per scoped copy. -/
abbrev cell (L : grid0.Coords) (s : DmaSem sig) : GSem nD τ sig := (V d (cV L) (jV L), .dma s)
abbrev semRest : sProp 𝕄 :=
  bigSep ((((((ownCells (V d (cV L) (jV L))).erase (cell d L cc0_scratch2.sem)).erase (cell d L cc0_scoped0.sem)).erase
    (cell d L cc0_scoped1.sem)).erase (cell d L cc0_scoped2.sem)).erase (cell d L cc0_scoped3.sem)) fun g => semVal g 0

omit [FloatOps F] in
/-- A scoped copy semaphore's cell is among those of the tile. -/
theorem cell_own (s : DmaSem sig) (hs : (SemLoc.dma s : SemLoc sig).isScoped .scVector = true) :
    cell d L s ∈ ownCells (V d (cV L) (jV L)) := (mem_ownCells (g := cell d L s)).mpr ⟨rfl, hs⟩
omit [FloatOps F] in
/-- Different semaphores have different cells. -/
theorem cell_ne {s t : DmaSem sig} (h : s ≠ t) : cell d L s ≠ cell d L t := fun e =>
  h (SemLoc.dma.inj (congrArg Prod.snd e))

omit [FloatOps F] in
/-- The tile's semaphores, with those the kernel uses set apart. -/
theorem sems_split :
    (ownSems0 (V d (cV L) (jV L)) : sProp 𝕄)
      = iprop(semVal (cell d L cc0_scratch2.sem) 0 ∗ semVal (cell d L cc0_scoped0.sem) 0 ∗ semVal (cell d L cc0_scoped1.sem) 0
          ∗ semVal (cell d L cc0_scoped2.sem) 0 ∗ semVal (cell d L cc0_scoped3.sem) 0 ∗ semRest d L) := by
  unfold SparseCore.Cfg.ownSems0
  have n (s : DmaSem sig) (hs : (SemLoc.dma s : SemLoc sig).isScoped .scVector = true) := cell_own d L s hs
  rw [SparseCore.bigSep_erase' (n cc0_scratch2.sem (by decide)),
    SparseCore.bigSep_erase' (Finset.mem_erase.mpr ⟨cell_ne d L (by decide), n cc0_scoped0.sem (by decide)⟩),
    SparseCore.bigSep_erase' (Finset.mem_erase.mpr ⟨cell_ne d L (by decide), Finset.mem_erase.mpr ⟨cell_ne d L (by decide), n cc0_scoped1.sem (by decide)⟩⟩),
    SparseCore.bigSep_erase' (Finset.mem_erase.mpr ⟨cell_ne d L (by decide), Finset.mem_erase.mpr ⟨cell_ne d L (by decide),
      Finset.mem_erase.mpr ⟨cell_ne d L (by decide), n cc0_scoped2.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), n cc0_scoped3.sem (by decide)⟩⟩⟩⟩)]

abbrev bufRest : sProp 𝕄 :=
  bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f)

omit [FloatOps F] in
/-- The list buffer and the row buffer are among the tile's own. -/
theorem bufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bufRest d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The values -/

omit [FloatOps F] in
/-- Position `n` of a list of 512 is its index `n`. -/
theorem list_symm (n : Fin S512.numel) : (S512.rowMajor.symm n 0).val = n.val := by
  have h := congrArg Fin.val (S512.rowMajor.apply_symm_apply n)
  rwa [Shape.rowMajor_val_one] at h

omit [FloatOps F] in
/-- Where an entry of the slice of trace indices lies in the array. -/
theorem emb_trK (j : S512.Idx) : ((trK L).view.emb j 0).val = k0_off1 L 0 + (j 0).val := by
  show k0_off1 L 0 + 1 * (j 0).val = _
  omega
omit [FloatOps F] in
/-- Where an entry of the slice of activity indices lies in the array. -/
theorem emb_actK (t : Fin k0_t1_loop.trips) (j : S512.Idx) : ((actK L t).view.emb j 0).val = k0_off3 L t 0 + (j 0).val := by
  show k0_off3 L t 0 + 1 * (j 0).val = _
  omega
omit [FloatOps F] in
/-- Where an entry of the slice of trace rows lies in the array. -/
theorem emb_outTK (j : S512x128.Idx) (a : Fin 2) : ((outTK L).view.emb j a).val = k0_off2 L a + (j a).val := by
  show k0_off2 L a + 1 * (j a).val = _
  omega
omit [FloatOps F] in
/-- Where an entry of the slice of activity rows lies in the array. -/
theorem emb_outAK (t : Fin k0_t1_loop.trips) (j : S512x128.Idx) (a : Fin 2) : ((outAK L t).view.emb j a).val = k0_off4 L t a + (j a).val := by
  show k0_off4 L t a + 1 * (j a).val = _
  omega

omit [FloatOps F] in
/-- The trace table's rows at the task's trace numbers are its block of the call's trace rows. -/
theorem payT (hr : InRange xA xT) (lst : S512.Idx → BitVec 32) (hl : ∀ j, lst j = xT d ((trK L).view.emb j))
    (hin : ∀ j, (lst j).toNat < S100000x128.size gathers_S100000x128_S512x128.axis) (j : S512x128.Idx) :
    SparseCore.gatherPayload (F := F) (e := .f32) gathers_S100000x128_S512x128 ((tabTK).view.read (Elt F) (m (tabTLoc d)))
        (SparseCore.rows (F := F) lst rfl hin) j
      = gT m xT d ((outTK L).view.emb j) := by
  unfold SparseCore.gatherPayload gT rowsT rowOf
  rw [View.read_apply]
  refine (cast_eq _ _).trans (congrArg (m (tabTLoc d)) (funext fun a => Fin.ext ?_))
  have hw : lst (S512.rowMajor.symm ((j 0).cast rfl)) = xT d (ix1 ((outTK L).view.emb j 0)) := by
    rw [hl]
    refine congrArg (xT d) (funext fun b => Fin.ext ?_)
    match b with
    | ⟨0, _⟩ =>
      refine (emb_trK L _).trans ?_
      rw [list_symm]
      refine Eq.trans ?_ (emb_outTK L j 0).symm
      rw [k0_off1_eq, k0_off2_eq]; rfl
  match a with
  | ⟨0, _⟩ =>
    show 0 + 1 * (gathers_S100000x128_S512x128.idx _ j ⟨0, _⟩).val = _
    rw [Nat.zero_add, Nat.one_mul]
    refine (congrArg Fin.val (Shape.Gathers.idx_axis gathers_S100000x128_S512x128 _ j)).trans ?_
    show (lst (S512.rowMajor.symm ((j 0).cast _))).toNat = (xT d (ix1 ((outTK L).view.emb j 0))).toNat % 100000
    rw [Nat.mod_eq_of_lt (hr.2 d _), ← hw]; rfl
  | ⟨1, _⟩ =>
    show 0 + 1 * (gathers_S100000x128_S512x128.idx _ j ⟨1, _⟩).val = ((outTK L).view.emb j 1).val
    rw [Nat.zero_add, Nat.one_mul, Shape.Gathers.idx_of_ne _ _ _ _ Nat.one_ne_zero, emb_outTK, k0_off2_eq]
    simp

omit [FloatOps F] in
/-- The activity table's rows at trip `t`'s activity numbers are its chunk of the call's activity rows. -/
theorem payA (hr : InRange xA xT) (t : Fin k0_t1_loop.trips) (lst : S512.Idx → BitVec 32) (hl : ∀ j, lst j = xA d ((actK L t).view.emb j))
    (hin : ∀ j, (lst j).toNat < S1000x128.size gathers_S1000x128_S512x128.axis) (j : S512x128.Idx) :
    SparseCore.gatherPayload (F := F) (e := .f32) gathers_S1000x128_S512x128 ((tabAK).view.read (Elt F) (m (tabALoc d)))
        (SparseCore.rows (F := F) lst rfl hin) j
      = gA m xA d ((outAK L t).view.emb j) := by
  unfold SparseCore.gatherPayload gA rowsA rowOf
  rw [View.read_apply]
  refine (cast_eq _ _).trans (congrArg (m (tabALoc d)) (funext fun a => Fin.ext ?_))
  have hw : lst (S512.rowMajor.symm ((j 0).cast rfl)) = xA d (ix1 ((outAK L t).view.emb j 0)) := by
    rw [hl]
    refine congrArg (xA d) (funext fun b => Fin.ext ?_)
    match b with
    | ⟨0, _⟩ =>
      refine (emb_actK L t _).trans ?_
      rw [list_symm]
      refine Eq.trans ?_ (emb_outAK L t j 0).symm
      rw [k0_off3_eq, k0_off4_eq]; rfl
  match a with
  | ⟨0, _⟩ =>
    show 0 + 1 * (gathers_S1000x128_S512x128.idx _ j ⟨0, _⟩).val = _
    rw [Nat.zero_add, Nat.one_mul]
    refine (congrArg Fin.val (Shape.Gathers.idx_axis gathers_S1000x128_S512x128 _ j)).trans ?_
    show (lst (S512.rowMajor.symm ((j 0).cast _))).toNat = (xA d (ix1 ((outAK L t).view.emb j 0))).toNat % 1000
    rw [Nat.mod_eq_of_lt (hr.1 d _), ← hw]; rfl
  | ⟨1, _⟩ =>
    show 0 + 1 * (gathers_S1000x128_S512x128.idx _ j ⟨1, _⟩).val = ((outAK L t).view.emb j 1).val
    rw [Nat.zero_add, Nat.one_mul, Shape.Gathers.idx_of_ne _ _ _ _ Nat.one_ne_zero, emb_outAK, k0_off4_eq]
    simp

/-! ## The task's run -/

omit [FloatOps F] in
/-- What a fetch of the list lands, read back. -/
theorem list_read (fs : Buf (Elt F) ((V d (cV L) (jV L)).loc cc0_scratch0)) (pay : S512.Idx → BitVec 32) :
    (lstV).view.read (Elt F) (View.write (Elt F) (lstV).view fs pay Finset.univ) = pay := by
  exact View.read_write_univ _ _

/-- The loop's invariant: before trip `t` the first `t` chunks of the task's activity rows are gathered, the others as
    they were; the list and the row buffer hold anything; the semaphores the trips use are at zero. -/
def inv (O : CellTallies nD τ sig (HIx 1)) (W : Waits sig (HIx 1)) (t : Nat) (_ : PUnit) : sProp 𝕄 :=
  iprop(Transfers.MayWaits (V d (cV L) (jV L)) (none : HIx 1) O
    ∗ ((actV).view.loc (V d (cV L) (jV L)) ↦{shr (cL L) (sL L)} xA d)
    ∗ ((tabAV).view.loc (V d (cV L) (jV L)) ↦{shr (cL L) (sL L)} m (tabALoc d))
    ∗ (∃ f, (lstV).view.loc (V d (cV L) (jV L)) ↦{fullShare} f) ∗ (∃ f, (rowV).view.loc (V d (cV L) (jV L)) ↦{fullShare} f)
    ∗ semVal (cell d L cc0_scratch2.sem) 0 ∗ semVal (cell d L cc0_scoped2.sem) 0 ∗ semVal (cell d L cc0_scoped3.sem) 0
    ∗ (bigSep Finset.univ fun k : Fin 20 =>
        outALoc d ↦[aSet (aIx (cL L) (sL L) k)]{fullShare} (if k.val < t then gA m xA d else m (outALoc d)))
    ∗ ∃ W', ⌜∀ p ∈ W', p ∈ W ∨ p.2 = none⌝ ∗ owes (V d (cV L) (jV L)) O W')

omit [FloatOps F] in
/-- Trip `t`'s chunk out of the chunks, and back in gathered. -/
theorem chunk_step (t : Fin k0_t1_loop.trips) :
    (bigSep Finset.univ fun k : Fin 20 =>
        (outALoc d ↦[aSet (aIx (cL L) (sL L) k)]{fullShare} (if k.val < t.val then gA m xA d else m (outALoc d)) : sProp 𝕄))
      ⊢ iprop((outALoc d ↦[aSet (aIx (cL L) (sL L) (kL t))]{fullShare} m (outALoc d))
          ∗ ((outALoc d ↦[aSet (aIx (cL L) (sL L) (kL t))]{fullShare} gA m xA d)
            -∗ bigSep Finset.univ fun k : Fin 20 =>
                outALoc d ↦[aSet (aIx (cL L) (sL L) k)]{fullShare} (if k.val < t.val + 1 then gA m xA d else m (outALoc d)))) := by
  rw [SparseCore.bigSep_erase' (Finset.mem_univ (kL t)), SparseCore.bigSep_erase' (Finset.mem_univ (kL t))]
  rw [if_neg (show ¬ (kL t).val < t.val from Nat.lt_irrefl _), if_pos (show (kL t).val < t.val + 1 from Nat.lt_succ_self _)]
  have hrest : (bigSep (Finset.univ.erase (kL t)) fun k : Fin 20 =>
        (outALoc d ↦[aSet (aIx (cL L) (sL L) k)]{fullShare} (if k.val < t.val then gA m xA d else m (outALoc d)) : sProp 𝕄))
      = bigSep (Finset.univ.erase (kL t)) fun k : Fin 20 =>
        (outALoc d ↦[aSet (aIx (cL L) (sL L) k)]{fullShare} (if k.val < t.val + 1 then gA m xA d else m (outALoc d)) : sProp 𝕄) :=
    bigSep_congr fun k hk => by
      have hne : k.val ≠ t.val := fun e => (Finset.mem_erase.mp hk).1 (Fin.ext e)
      by_cases h : k.val < t.val
      · rw [if_pos h, if_pos (by omega)]
      · rw [if_neg h, if_neg (by omega)]
  rw [hrest]
  iintro ⟨Hc, Hr⟩
  isplitl [Hc]; · iexact Hc
  iintro Hc
  isplitl [Hc] <;> iassumption

omit [FloatOps F] in
/-- What a fetch of 512 words lands is the words it read. -/
theorem trK_read (j : S512.Idx) : (trK L).view.read (Elt F) (xT d) j = xT d ((trK L).view.emb j) := by
  exact (View.read_apply _ _).trans (cast_eq _ _)
omit [FloatOps F] in
/-- Reading the slice of activity indices reads the array at the place of the slice. -/
theorem actK_read (t : Fin k0_t1_loop.trips) (j : S512.Idx) : (actK L t).view.read (Elt F) (xA d) j = xA d ((actK L t).view.emb j) := by
  exact (View.read_apply _ _).trans (cast_eq _ _)

omit [FloatOps F] in
/-- The list fetched for the trace rows names rows of the trace table. -/
theorem inT (hr : InRange xA xT) (fs : Buf (Elt F) ((V d (cV L) (jV L)).loc cc0_scratch0)) (pay : S512.Idx → BitVec 32)
    (hp : pay = (trK L).view.read (Elt F) (xT d)) (j : S512.Idx) :
    ((lstV).view.read (Elt F) (View.write (Elt F) (lstV).view fs pay Finset.univ) j).toNat < S100000x128.size gathers_S100000x128_S512x128.axis := by
  rw [list_read d L fs pay, hp, trK_read xT d L]
  exact hr.2 d _
omit [FloatOps F] in
/-- The activity indices of a trip's list name rows of the table. -/
theorem inA (hr : InRange xA xT) (t : Fin k0_t1_loop.trips) (fs : Buf (Elt F) ((V d (cV L) (jV L)).loc cc0_scratch0)) (pay : S512.Idx → BitVec 32)
    (hp : pay = (actK L t).view.read (Elt F) (xA d)) (j : S512.Idx) :
    ((lstV).view.read (Elt F) (View.write (Elt F) (lstV).view fs pay Finset.univ) j).toNat < S1000x128.size gathers_S1000x128_S512x128.axis := by
  rw [list_read d L fs pay, hp, actK_read xA d L]
  exact hr.1 d _

omit [FloatOps F] in
/-- What the copy out of the row buffer leaves in the task's block of the trace rows. -/
theorem landT (hr : InRange xA xT) (fs : Buf (Elt F) ((V d (cV L) (jV L)).loc cc0_scratch0)) (fr : Buf (Elt F) ((V d (cV L) (jV L)).loc cc0_scratch1))
    (pay : S512.Idx → BitVec 32) (hp : pay = (trK L).view.read (Elt F) (xT d)) (fo : Buf (Elt F) (outTLoc d)) (out : S512x128.Idx → Elt F .f32)
    (ho : out = (rowV).view.read (Elt F) (View.write (Elt F) (rowV).view fr
      (SparseCore.gatherPayload (F := F) (e := .f32) gathers_S100000x128_S512x128 ((tabTK).view.read (Elt F) (m (tabTLoc d)))
        (SparseCore.rows (F := F) ((lstV).view.read (Elt F) (View.write (Elt F) (lstV).view fs pay Finset.univ)) rfl (inT xA xT d L hr fs pay hp)))
        Finset.univ))
    (x) (hx : x ∈ (outTK L).view.set) :
    (outTK L).view.writes (Elt F) fo [⟨Rect.whole S512x128, out⟩] x = gT m xT d x := by
  obtain ⟨j, -, rfl⟩ := Finset.mem_map.mp hx
  refine (congrFun (View.write_univ_eq_writes_whole (outTK L).view fo [] out).symm _).trans ?_
  refine (View.write_emb_of_mem (v := (outTK L).view) fo out (Finset.mem_univ j)).trans ?_
  refine (cast_eq _ _).trans ?_
  rw [ho]
  refine (congrFun (View.read_write_univ (Val := Elt F) (v := (rowV).view) _ _) j).trans ?_
  exact payT m xA xT d L hr _ (fun j => by rw [list_read d L fs pay, hp, trK_read xT d L]) _ j
omit [FloatOps F] in
/-- What a trip writes are the gathered rows of its chunk. -/
theorem landA (hr : InRange xA xT) (t : Fin k0_t1_loop.trips) (fs : Buf (Elt F) ((V d (cV L) (jV L)).loc cc0_scratch0)) (fr : Buf (Elt F) ((V d (cV L) (jV L)).loc cc0_scratch1))
    (pay : S512.Idx → BitVec 32) (hp : pay = (actK L t).view.read (Elt F) (xA d)) (fo : Buf (Elt F) (outALoc d)) (out : S512x128.Idx → Elt F .f32)
    (ho : out = (rowV).view.read (Elt F) (View.write (Elt F) (rowV).view fr
      (SparseCore.gatherPayload (F := F) (e := .f32) gathers_S1000x128_S512x128 ((tabAK).view.read (Elt F) (m (tabALoc d)))
        (SparseCore.rows (F := F) ((lstV).view.read (Elt F) (View.write (Elt F) (lstV).view fs pay Finset.univ)) rfl (inA xA xT d L hr t fs pay hp)))
        Finset.univ))
    (x) (hx : x ∈ (outAK L t).view.set) :
    (outAK L t).view.writes (Elt F) fo [⟨Rect.whole S512x128, out⟩] x = gA m xA d x := by
  obtain ⟨j, -, rfl⟩ := Finset.mem_map.mp hx
  refine (congrFun (View.write_univ_eq_writes_whole (outAK L t).view fo [] out).symm _).trans ?_
  refine (View.write_emb_of_mem (v := (outAK L t).view) fo out (Finset.mem_univ j)).trans ?_
  refine (cast_eq _ _).trans ?_
  rw [ho]
  refine (congrFun (View.read_write_univ (Val := Elt F) (v := (rowV).view) _ _) j).trans ?_
  exact payA m xA xT d L hr t _ (fun j => by rw [list_read d L fs pay, hp, actK_read xA d L]) _ j

omit [FloatOps F] in
/-- The 512 rows of the row buffer, one transfer's credit each, make up the buffer's. -/
theorem row_credit {a : Nat} {s₀ : Shape} (h : s₀.Gathers a S512x128) (ha : h.axis' = 0) :
    ∑ j, ((rowV).slice (S512x128.rowRect h.axis' j) (S512x128.stride_rowRect h.axis' j)).view.dmaCredit = (rowV).view.dmaCredit := by
  rw [ha]; decide +kernel

set_option maxHeartbeats 4000000 in
/-- One trip of the loop. -/
theorem trip (hr : InRange xA xT) (O : CellTallies nD τ sig (HIx 1)) (W : Waits sig (HIx 1)) (t : Fin k0_t1_loop.trips) (u : Unit) :
    inv m xA d L O W t.val u ⊢ wp frame (wpE (defs₀ (F := F)) 𝒱₀ (V d (cV L) (jV L)) none) Set.univ
      (k0_t1_body (F := F) L actV (Memref.isWhole_whole _) trV (Memref.isWhole_whole _) tabAV (Memref.isWhole_whole _) tabTV (Memref.isWhole_whole _)
            outAV (Memref.isWhole_whole _) outTV (Memref.isWhole_whole _) lstV (Memref.isWhole_whole _) rowV (Memref.isWhole_whole _)
            cc0_scratch2 cc0_scoped0 cc0_scoped1 cc0_scoped2 cc0_scoped3 t u)
      fun u => inv m xA d L O W (t.val + 1) u := by
  unfold inv k0_t1_body
  iintro ⟨#Hmw, Ha, Hx, ⟨%fs, Hs⟩, ⟨%fr, Hr⟩, HsemG, HsemC, HsemD, Hch, %W', %hW', HO⟩
  ihave Hch' := (chunk_step m xA d L t) $$ Hch
  icases Hch' with ⟨Ho, Hback⟩
  ihave Ho' := (Entails.of_eq (pts_outAK (F := F) d L t _).symm) $$ Ho
  sl_exec
  iapply (SparseCore.wp_gatherFromWhole countersEmb 𝒱₀ (V d (cV L) (jV L)) none (src := tabAK) (hg := gathers_S1000x128_S512x128) (default : HIx 1)
      (rowV).view.dmaCredit (row_credit _ rfl) (by decide) (inA xA xT d L hr t fs (trip.sl.dma0 xA d L t) rfl)) $$ [Hx Hr Hs HsemG]
  · isplitl [Hx]; · iexact Hx
    isplitl [Hr]; · iexact Hr
    isplitl [Hs]; · iexact Hs
    iexact HsemG
  iintro Hfl
  sl_exec
  iapply (Transfers.wp_waitLocalO countersEmb 𝒱₀ (V d (cV L) (jV L)) none (default : HIx 1) (rfl : (rowV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hx, Hs⟩, HsemG, HO⟩
  sl_exec
  sl_step
  isplitl [Hmw]; · iexact Hmw
  isplitl [Ha]; · iexact Ha
  isplitl [Hx]; · iexact Hx
  isplitl [Hs]; · iexists _; iexact Hs
  isplitl [Hr]; · iexists _; iexact Hr
  isplitl [HsemG]; · iexact HsemG
  isplitl [HsemC]; · iexact HsemC
  isplitl [HsemD]; · iexact HsemD
  isplitl [Hback Ho']
  · iapply Hback
    iapply (Entails.of_eq (pts_outAK (F := F) d L t _))
    iapply (Entails.of_eq (pointsTo_congr (fun x hx => landA m xA xT d L hr t fs fr (trip.sl.dma0 xA d L t) rfl _ _ rfl x hx)))
    iexact Ho'
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
/-- Before the first trip no chunk is written. -/
theorem chunks_none :
    (bigSep Finset.univ fun k : Fin 20 => (outALoc d ↦[aSet (aIx (cL L) (sL L) k)]{fullShare} m (outALoc d) : sProp 𝕄))
      = bigSep Finset.univ fun k : Fin 20 => outALoc d ↦[aSet (aIx (cL L) (sL L) k)]{fullShare} (if k.val < 0 then gA m xA d else m (outALoc d)) :=
  bigSep_congr fun k _ => by rw [if_neg (Nat.not_lt_zero _)]
omit [FloatOps F] in
/-- After the last trip every chunk is written. -/
theorem chunks_all :
    (bigSep Finset.univ fun k : Fin 20 => (outALoc d ↦[aSet (aIx (cL L) (sL L) k)]{fullShare}
        (if k.val < k0_t1_loop.trips then gA m xA d else m (outALoc d)) : sProp 𝕄))
      = bigSep Finset.univ fun k : Fin 20 => outALoc d ↦[aSet (aIx (cL L) (sL L) k)]{fullShare} gA m xA d :=
  bigSep_congr fun k _ => by rw [if_pos (lt_of_lt_of_eq k.isLt trips_eq.symm)]

set_option maxHeartbeats 4000000 in
/-- The task's run: from what it is handed to the same with its rows gathered. -/
theorem tile_body (hF : (K (F := F)).Facts) (hr : InRange xA xT) (O : CellTallies nD τ sig (HIx 1)) (W : Waits sig (HIx 1)) (hO : ∀ g, O g none = 0) :
    iprop(levAts (K (F := F)).L (K (F := F)).lev ∗ emp ∗ before m xA xT d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body (F := F) L actV (Memref.isWhole_whole _) trV (Memref.isWhole_whole _) tabAV (Memref.isWhole_whole _) tabTV (Memref.isWhole_whole _)
            outAV (Memref.isWhole_whole _) outTV (Memref.isWhole_whole _) lstV (Memref.isWhole_whole _) rowV (Memref.isWhole_whole _)
            cc0_scratch2 cc0_scoped0 cc0_scoped1 cc0_scoped2 cc0_scoped3)
          fun _ => iprop(after m xA xT d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), sems_split, bufs_split]
  iintro ⟨#Hlv, -, ⟨⟨Ha, Ht, Hx, Hy⟩, Hch, Ho⟩, ⟨⟨%fs, Hs⟩, ⟨%fr, Hr⟩, Hbufs⟩, ⟨HsemG, HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_outTK (F := F) d L _).symm) $$ Ho
  ihave Ha' := (Entails.of_eq (pts_actV (F := F) d L _ _).symm) $$ Ha
  ihave Ht' := (Entails.of_eq (pts_trV (F := F) d L _ _).symm) $$ Ht
  ihave Hx' := (Entails.of_eq (pts_tabAV (F := F) d L _ _).symm) $$ Hx
  ihave Hy' := (Entails.of_eq (pts_tabTV (F := F) d L _ _).symm) $$ Hy
  ihave Hs' := (Entails.of_eq (pts_lstV (F := F) d L _).symm) $$ Hs
  ihave Hr' := (Entails.of_eq (pts_rowV (F := F) d L _).symm) $$ Hr
  sl_exec
  iapply (SparseCore.wp_gatherFromWhole countersEmb 𝒱₀ (V d (cV L) (jV L)) none (src := tabTK) (hg := gathers_S100000x128_S512x128) (default : HIx 1)
      (rowV).view.dmaCredit (row_credit _ rfl) (by decide) (inT xA xT d L hr fs (tile_body.sl.dma0 xT d L) rfl)) $$ [Hy' Hr' Hs' HsemG]
  · isplitl [Hy']; · iexact Hy'
    isplitl [Hr']; · iexact Hr'
    isplitl [Hs']; · iexact Hs'
    iexact HsemG
  iintro Hfl
  sl_exec
  iapply (Transfers.wp_waitLocalO countersEmb 𝒱₀ (V d (cV L) (jV L)) none (default : HIx 1) (rfl : (rowV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hy', Hs'⟩, HsemG, HO⟩
  sl_exec
  sl_for (inv m xA d L O W) $$ [Hmw Ha' Hx' Hs' Hr' HsemG HsemC HsemD Hch HO]
  case region => exact fun t u => trip m xA xT d L hr O W t u
  · unfold inv
    isplitl [Hmw]; · iexact Hmw
    isplitl [Ha']; · iexact Ha'
    isplitl [Hx']; · iexact Hx'
    isplitl [Hs']; · iexists _; iexact Hs'
    isplitl [Hr']; · iexists _; iexact Hr'
    isplitl [HsemG]; · iexact HsemG
    isplitl [HsemC]; · iexact HsemC
    isplitl [HsemD]; · iexact HsemD
    isplitl [Hch]
    · iapply (Entails.of_eq (chunks_none m xA d L))
      iexact Hch
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %_ HI
  unfold inv
  icases HI with ⟨-, Ha, Hx, ⟨%fs', Hs⟩, ⟨%fr', Hr⟩, HsemG, HsemC, HsemD, Hch, %W', %hW', HO⟩
  sl_exec
  sl_step
  isplitl [Ha Ht' Hx Hy' Hch Ho']
  · isplitl [Ha Ht' Hx Hy']
    · isplitl [Ha]; · iexact Ha
      isplitl [Ht']; · iexact Ht'
      isplitl [Hx]; · iexact Hx
      iexact Hy'
    isplitl [Hch]
    · iapply (Entails.of_eq (chunks_all m xA d L))
      iexact Hch
    iapply (Entails.of_eq (pts_outTK (F := F) d L _))
    iapply (Entails.of_eq (pointsTo_congr (fun x hx => landT m xA xT d L hr fs fr (tile_body.sl.dma0 xT d L) rfl _ _ rfl x hx)))
    iexact Ho'
  isplitl [Hs Hr Hbufs]
  · isplitl [Hs]; · iexists _; iexact Hs
    isplitl [Hr]; · iexists _; iexact Hr
    iexact Hbufs
  isplitl [HsemG HsemA HsemB HsemC HsemD Hsems]
  · isplitl [HsemG]; · iexact HsemG
    isplitl [HsemA]; · iexact HsemA
    isplitl [HsemB]; · iexact HsemB
    isplitl [HsemC]; · iexact HsemC
    isplitl [HsemD]; · iexact HsemD
    iexact Hsems
  iexists W'; isplitr
  · ipureintro; exact hW'
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

/-- The program a tile runs is the kernel's body at its coordinates. -/
theorem defs₀_vector (c : Fin τ.nSC) (s : Fin τ.nSub) :
    defs₀ (F := F) (.scVector c s) 0 ()
      = SparseCore.onTile hcore0 hsub0 (fun c s => cc0__sc_gather_body (F := F) (coordsV c s)
            actV (Memref.isWhole_whole _) trV (Memref.isWhole_whole _) tabAV (Memref.isWhole_whole _) tabTV (Memref.isWhole_whole _)
            outAV (Memref.isWhole_whole _) outTV (Memref.isWhole_whole _) lstV (Memref.isWhole_whole _) rowV (Memref.isWhole_whole _)
            cc0_scratch2 cc0_scoped0 cc0_scoped1 cc0_scoped2 cc0_scoped3) ⟨⟩ c s := rfl

omit [FloatOps F] in
/-- A tile's result may be weakened to what the launch asks of it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
/-- Every task of the call, run by its tile. -/
theorem tileObl (hF : (K (F := F)).Facts) (hr : InRange xA xT) : (K (F := F)).TileObl (D (F := F)) 𝒱 (P m xA xT) v₀ 0 := by
  intro d c i O W hO _ _
  simp only [show (P (F := F) m xA xT).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m xA xT d (coordsV ⟨_, hci.1⟩ ⟨_, hci.2⟩) hF hr O W hO).trans (wp_mono frame _ _ fun _ => obl_post)

end Tile

/-! ## A SparseCore's part is its tasks' -/

omit [FloatOps F] in
/-- The product over the tiles of a core, over either way of counting them. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a core is handed is what its tiles are handed, and so for what they give back. -/
theorem vecSplit : (K (F := F)).VecSplit' (P m xA xT) 0 := by
  intro d c
  refine Entails.trans ?_ BI.fupd_intro
  show (bigSep Finset.univ fun s : Fin 16 => before m xA xT d (Fin.cast nCore_zero c) s) ⊢ iprop(
      (bigSep Finset.univ fun i : Fin ((K (F := F)).nSub 0) => before m xA xT d (Fin.cast nCore_zero c) (Fin.cast nSub_zero i))
      ∗ ((bigSep Finset.univ fun i : Fin ((K (F := F)).nSub 0) => after m xA xT d (Fin.cast nCore_zero c) (Fin.cast nSub_zero i))
          -∗ bigSep Finset.univ fun s : Fin 16 => after m xA xT d (Fin.cast nCore_zero c) s))
  rw [bigSep_tasks (F := F) (fun i => before m xA xT d (Fin.cast nCore_zero c) i),
    bigSep_tasks (F := F) (fun i => after m xA xT d (Fin.cast nCore_zero c) i)]
  iintro H
  isplitl [H]; · iexact H
  iintro H; iexact H

end Cert.KernelIdeal.Sc
-- ==== Proof.ArgsKI.lean ====
/-
  The SparseCore call's operands — two lists of row numbers, two tables, two arrays of rows — are the thirty-two tasks' parts together: each
  array read is cut into shares, each array written into the tasks' blocks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueIdxCore
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScKI

@[expose] public section

noncomputable section

namespace Cert.KernelIdeal.Sc

open Cert.KernelIdeal Cert.KernelIdeal.Gen

open Idealize.ShloMosaic Idealize.ShloMosaic.ValueIdx Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (xA : (d : Dev nD) → Buf (Elt F) (actLoc d)) (xT : (d : Dev nD) → Buf (Elt F) (trLoc d))
variable [FloatOps F]

/-! ## The call's operands are the tasks' parts -/

/-- The 32 tasks as the pairs of a SparseCore and a tile. -/
abbrev bigTasks (Φ : Fin 2 → Fin 16 → sProp 𝕄) : sProp 𝕄 := bigSep Finset.univ fun c : Fin 2 => bigSep Finset.univ fun s : Fin 16 => Φ c s

omit [FloatOps F] in
/-- A product over all tiles of two resources is the product of the two products. -/
theorem bigTasks_sep (Φ Ψ : Fin 2 → Fin 16 → sProp 𝕄) :
    bigTasks (fun c s => iprop(Φ c s ∗ Ψ c s)) = iprop(bigTasks Φ ∗ bigTasks Ψ) := by
  unfold bigTasks
  rw [← bigSep_sep']
  exact bigSep_congr fun c _ => bigSep_sep' _ _ _

omit [FloatOps F] in
/-- The product over cores and then over tiles is the product over the pairs of them. -/
theorem bigTasks_pair (Φ : Fin 2 × Fin 16 → sProp 𝕄) : bigTasks (fun c s => Φ (c, s)) = bigSep Finset.univ Φ :=
  (bigSep_univ_prod _).symm

omit [FloatOps F] in
/-- An array whole is its 32 shares, one per task. -/
theorem shares (ℓ : Loc nD τ sig) (f : Buf (Elt F) ℓ) : (ℓ ↦{fullShare} f : sProp 𝕄) = bigTasks fun c s => ℓ ↦{shr c s} f := by
  rw [bigTasks_pair (fun p => ℓ ↦{shr p.1 p.2} f)]
  refine (pointsTo_leaves Finset.univ f 5 fullShare).trans ?_
  refine (bigSep_univ_equiv (finProdFinEquiv (m := 2) (n := 16)) _).trans (bigSep_congr fun p _ => ?_)
  refine congrArg (fun k => (ℓ ↦{leaf 5 fullShare k} f : sProp 𝕄)) (Fin.ext ?_)
  show p.2.val + 16 * p.1.val = 16 * p.1.val + p.2.val
  omega

omit [FloatOps F] in
/-- Two chunks with the same number are the same chunk of the same tile. -/
theorem aIx_inj {p p' : (Fin 2 × Fin 16) × Fin 20} (h : aIx p.1.1 p.1.2 p.2 = aIx p'.1.1 p'.1.2 p'.2) : p = p' := by
  obtain ⟨⟨c, s⟩, k⟩ := p
  obtain ⟨⟨c', s'⟩, k'⟩ := p'
  have h := congrArg Fin.val h
  simp only at h
  ext <;> simp only <;> omega
omit [FloatOps F] in
/-- Two tiles with the same number are the same tile. -/
theorem tIx_inj {p p' : Fin 2 × Fin 16} (h : tIx p.1 p.2 = tIx p'.1 p'.2) : p = p' := by
  obtain ⟨c, s⟩ := p
  obtain ⟨c', s'⟩ := p'
  have h := congrArg Fin.val h
  simp only at h
  ext <;> simp only <;> omega

set_option maxRecDepth 16384 in
omit [FloatOps F] in
/-- The chunks of all tiles cover the gathered activity rows. -/
theorem chunks_cover : (Finset.univ : Finset ((Fin 2 × Fin 16) × Fin 20)).biUnion (fun p => aSet (aIx p.1.1 p.1.2 p.2)) = Finset.univ := by
  refine Finset.eq_univ_iff_forall.2 fun x => ?_
  have hx : x ∈ Finset.univ.biUnion fun n => (Rect.part (s := S327680x128) (a₀ := 0) adiv n).set := by rw [Rect.biUnion_part adiv]; exact Finset.mem_univ x
  obtain ⟨n, -, hn⟩ := Finset.mem_biUnion.mp hx
  refine Finset.mem_biUnion.2 ⟨((⟨n.val / 20 % 2, Nat.mod_lt _ (by decide)⟩, ⟨n.val / 40, by omega⟩), ⟨n.val % 20, Nat.mod_lt _ (by decide)⟩), Finset.mem_univ _, ?_⟩
  have e : aIx ⟨n.val / 20 % 2, Nat.mod_lt _ (by decide)⟩ ⟨n.val / 40, by omega⟩ ⟨n.val % 20, Nat.mod_lt _ (by decide)⟩ = n := Fin.ext (by simp only; omega)
  show x ∈ aSet (aIx _ _ _)
  rw [e]; exact hn
omit [FloatOps F] in
/-- The activity rows are the 640 chunks of the 32 tasks. -/
theorem outA_tasks (d : Dev nD) (f : Buf (Elt F) (outALoc d)) :
    (outALoc d ↦{fullShare} f : sProp 𝕄)
      = bigTasks fun c s => bigSep Finset.univ fun k : Fin 20 => outALoc d ↦[aSet (aIx c s k)]{fullShare} f := by
  rw [bigTasks_pair (fun p => bigSep Finset.univ fun k : Fin 20 => outALoc d ↦[aSet (aIx p.1 p.2 k)]{fullShare} f),
    ← bigSep_univ_prod (fun p : (Fin 2 × Fin 16) × Fin 20 => (outALoc d ↦[aSet (aIx p.1.1 p.1.2 p.2)]{fullShare} f : sProp 𝕄)),
    ← pointsTo_biUnion Finset.univ (ℓ := outALoc d) (fun p : (Fin 2 × Fin 16) × Fin 20 => aSet (aIx p.1.1 p.1.2 p.2))
      fun p _ p' _ h => Rect.part_disjoint adiv fun e => h (aIx_inj e)]
  rw [chunks_cover]; try rfl
omit [FloatOps F] in
/-- The blocks of all tiles cover the gathered trace rows. -/
theorem blocks_cover : (Finset.univ : Finset (Fin 2 × Fin 16)).biUnion (fun p => tSet (tIx p.1 p.2)) = Finset.univ := by
  refine Finset.eq_univ_iff_forall.2 fun x => ?_
  have hx : x ∈ Finset.univ.biUnion fun n => (Rect.part (s := S16384x128) (a₀ := 0) tdiv n).set := by rw [Rect.biUnion_part tdiv]; exact Finset.mem_univ x
  obtain ⟨n, -, hn⟩ := Finset.mem_biUnion.mp hx
  refine Finset.mem_biUnion.2 ⟨(⟨n.val % 2, Nat.mod_lt _ (by decide)⟩, ⟨n.val / 2, by omega⟩), Finset.mem_univ _, ?_⟩
  have e : tIx ⟨n.val % 2, Nat.mod_lt _ (by decide)⟩ ⟨n.val / 2, by omega⟩ = n := Fin.ext (by simp only; omega)
  show x ∈ tSet (tIx _ _)
  rw [e]; exact hn
omit [FloatOps F] in
/-- The trace rows are the 32 tasks' blocks. -/
theorem outT_tasks (d : Dev nD) (f : Buf (Elt F) (outTLoc d)) :
    (outTLoc d ↦{fullShare} f : sProp 𝕄) = bigTasks fun c s => outTLoc d ↦[tSet (tIx c s)]{fullShare} f := by
  rw [bigTasks_pair (fun p => outTLoc d ↦[tSet (tIx p.1 p.2)]{fullShare} f),
    ← pointsTo_biUnion Finset.univ (ℓ := outTLoc d) (fun p : Fin 2 × Fin 16 => tSet (tIx p.1 p.2))
      fun p _ p' _ h => Rect.part_disjoint tdiv fun e => h (tIx_inj e)]
  rw [blocks_cover]; try rfl

omit [FloatOps F] in
/-- The call's six arrays are its tasks' parts. -/
theorem operands (d : Dev nD) (f : Buf (Elt F) (outALoc d)) (g : Buf (Elt F) (outTLoc d)) :
    (iprop(((actLoc d ↦{fullShare} xA d) ∗ (trLoc d ↦{fullShare} xT d) ∗ (tabALoc d ↦{fullShare} m (tabALoc d)) ∗ (tabTLoc d ↦{fullShare} m (tabTLoc d)))
        ∗ (outALoc d ↦{fullShare} f) ∗ (outTLoc d ↦{fullShare} g)) : sProp 𝕄)
      = bigTasks fun c s => iprop(readPts m xA xT d c s ∗ outPts d c s f g) := by
  rw [bigTasks_sep, bigTasks_sep, bigTasks_sep, bigTasks_sep, bigTasks_sep, ← shares, ← shares, ← shares, ← shares, ← outA_tasks, ← outT_tasks]

end Cert.KernelIdeal.Sc
-- ==== Proof.TcKI.lean ====
/-
  The TensorCore call of the program: a matrix product of 512 gathered rows with the weight table, the bias added, a softmax along
  the row. Its body's triple, the pipeline's proof data from any contents of its arrays at entry, and the region as one step of
  the host program, entered and left with whatever the SparseCore handshakes recorded staying at a bounded level.
-/
module

public import proofs.«01_k».proof.Proof.ScKI
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArrays
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Sc

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## What the body computes from five blocks -/

/-- The block of probabilities: the body's one stored value, of the five blocks it loads whole. -/
def probs (a : Vec F S512x2560 .f32) (t : Vec F S512x128 .f32) (wa : Vec F S2560x1000 .bf16) (wt : Vec F S128x1000 .bf16)
    (b : Vec F S1x1000 .f32) : Vec F S512x1000 .f32 :=
  View.canon [⟨Rect.unit (s := S512x1000) ![0, 0] S512x1000.size inb_S512x1000_S512x1000_0_0,
    k1_pay1 (View.ld a (Rect.unit (s := S512x2560) ![0, 0] S512x2560.size inb_S512x2560_S512x2560_0_0))
      (View.ld t (Rect.unit (s := S512x128) ![0, 0] S512x128.size inb_S512x128_S512x128_0_0))
      (View.ld wa (Rect.unit (s := S2560x1000) ![0, 0] S2560x1000.size inb_S2560x1000_S2560x1000_0_0))
      (View.ld wt (Rect.unit (s := S128x1000) ![0, 0] S128x1000.size inb_S128x1000_S128x1000_0_0))
      (View.ld b (Rect.unit (s := S1x1000) ![0, 0] S1x1000.size inb_S1x1000_S1x1000_0_0))⟩]

/-- The one store covers the output block. -/
theorem store_covers (p : Vec F S512x1000 .f32) (y : S512x1000.Idx) :
    ∃ q ∈ ([⟨Rect.unit (s := S512x1000) ![0, 0] S512x1000.size inb_S512x1000_S512x1000_0_0, p⟩] : List (View.Piece (Elt F) S512x1000 .f32)),
      y ∈ q.1.set :=
  View.cover_of_tiled [⟨Rect.unit (s := S512x1000) ![0, 0] S512x1000.size inb_S512x1000_S512x1000_0_0, p⟩] S512x1000.size (by rfl) y

set_option maxHeartbeats 1000000 in
/-- The body, run on six whole buffers: five are read and keep their contents, the sixth ends with `probs` of the five. -/
theorem body_run (c : Dev nD) (i : grid1.Coords)
    (ma : Memref sig .tc .vmem S512x2560 .f32) (ha : ma.IsWhole) (mt : Memref sig .tc .vmem S512x128 .f32) (ht : mt.IsWhole)
    (mwa : Memref sig .tc .vmem S2560x1000 .bf16) (hwa : mwa.IsWhole) (mwt : Memref sig .tc .vmem S128x1000 .bf16) (hwt : mwt.IsWhole)
    (mb : Memref sig .tc .vmem S1x1000 .f32) (hb : mb.IsWhole) (mo : Memref sig .tc .vmem S512x1000 .f32) (ho : mo.IsWhole)
    (a : Vec F S512x2560 .f32) (t : Vec F S512x128 .f32) (wa : Vec F S2560x1000 .bf16) (wt : Vec F S128x1000 .bf16)
    (b : Vec F S1x1000 .f32) (Q : PUnit → sProp 𝕄) :
    iprop(owns (c : Thread nD τ) ma fullShare a ∗ owns (c : Thread nD τ) mt fullShare t ∗ owns (c : Thread nD τ) mwa fullShare wa
        ∗ owns (c : Thread nD τ) mwt fullShare wt ∗ owns (c : Thread nD τ) mb fullShare b ∗ (∃ o, owns (c : Thread nD τ) mo fullShare o)
        ∗ (iprop(owns (c : Thread nD τ) ma fullShare a ∗ owns (c : Thread nD τ) mt fullShare t ∗ owns (c : Thread nD τ) mwa fullShare wa
            ∗ owns (c : Thread nD τ) mwt fullShare wt ∗ owns (c : Thread nD τ) mb fullShare b
            ∗ owns (c : Thread nD τ) mo fullShare (probs a t wa wt b)) -∗ Q ⟨⟩))
      ⊢ wp frame (wpE (defs₀ (F := F)) 𝒱₀ c none) Set.univ (cc1__tc_matmul_softmax i ma ha mt ht mwa hwa mwt hwt mb hb mo ho) Q := by
  simp only [cc1__tc_matmul_softmax_eq_skeleton]; unfold cc1__tc_matmul_softmax_skel
  unfold owns
  iintro ⟨⟨%fa, %ea, Ha⟩, ⟨%ft, %et, Ht⟩, ⟨%fwa, %ewa, Hwa⟩, ⟨%fwt, %ewt, Hwt⟩, ⟨%fb, %eb, Hb⟩, ⟨%o, %fo, -, Ho⟩, Hk⟩
  subst ea et ewa ewt eb
  sl_exec
  sl_step
  iapply Hk
  isplitl [Ha]
  · iexists fa; isplitr; · ipureintro; rfl
    iexact Ha
  isplitl [Ht]
  · iexists ft; isplitr; · ipureintro; rfl
    iexact Ht
  isplitl [Hwa]
  · iexists fwa; isplitr; · ipureintro; rfl
    iexact Hwa
  isplitl [Hwt]
  · iexists fwt; isplitr; · ipureintro; rfl
    iexact Hwt
  isplitl [Hb]
  · iexists fb; isplitr; · ipureintro; rfl
    iexact Hb
  iexists _; isplitr
  swap; · iexact Ho
  ipureintro
  exact View.read_writes_eq_canon _ _ _ (store_covers _)

/-! ## The pipeline's proof data -/

variable (Wv : Dev nD → Valuation τ sig (Elt F))

/-- Window `w`'s block at grid point `t`, of the array's contents at entry. -/
def blockAt (c : Dev nD) (w : Fin cfg1.W) (t : Fin cfg1.N) : ((cfg1.win w).xblock (cfg1.grid.coords t)).Idx → Elt F (cfg1.win w).elt :=
  ((cfg1.win w).blk t).view.read (Elt F) (Wv c (Proc.devRef .tc (Pipeline.arrRef spec1 w)))

/-- The admissible pins of the one pipeline, which prefetches no table. -/
abbrev pins : (p : Fin 1) → (pcfgs (F := F) p).Adm := fun p => (cfgs p).toPCfg_adm

/-- The proof data from the arrays' contents `Wv` at entry: each input's buffer keeps its block, the output's gets `probs` of the
    five blocks; nothing is owed and what is recorded is at a level of 8 at most. -/
def tcData (_ : Fin 1) (c : Dev nD) : Dat τ (Elt F) (HIx 1) ℕ UU ℕ cfg1 c where
  A w := Wv c (Proc.devRef .tc (Pipeline.arrRef spec1 w))
  after w t := match w with
    | ⟨0, _⟩ => blockAt Wv c 0 t
    | ⟨1, _⟩ => blockAt Wv c 1 t
    | ⟨2, _⟩ => blockAt Wv c 2 t
    | ⟨3, _⟩ => blockAt Wv c 3 t
    | ⟨4, _⟩ => blockAt Wv c 4 t
    | ⟨5, _⟩ => probs (blockAt Wv c 0 t) (blockAt Wv c 1 t) (blockAt Wv c 2 t) (blockAt Wv c 3 t) (blockAt Wv c 4 t)
  Φ _ := Pipeline.scopedRest spec1 c
  q _ := fullShare
  owed _ := 0
  recorded _ := {p | (K (F := F)).lev ((T c : Thread nD τ), p.1) p.2 ≤ 8}

/-- The array a window starts from is the one the call finds. -/
theorem tcA (c : Dev nD) (w : Fin cfg1.W) : (tcData Wv 0 c).A w = Wv c (Proc.devRef .tc (Pipeline.arrRef spec1 w)) := by
  dsimp only [tcData]

/-- The body leaves the first input block as it was. -/
theorem left0 (c : Dev nD) (t : Fin cfg1.N) : (tcData Wv 0 c).after 0 t = blockAt Wv c 0 t := by dsimp only [tcData]
/-- The body leaves the second input block as it was. -/
theorem left1 (c : Dev nD) (t : Fin cfg1.N) : (tcData Wv 0 c).after 1 t = blockAt Wv c 1 t := by dsimp only [tcData]
/-- The body leaves the activity weights as they were. -/
theorem left2 (c : Dev nD) (t : Fin cfg1.N) : (tcData Wv 0 c).after 2 t = blockAt Wv c 2 t := by dsimp only [tcData]
/-- The body leaves the trace weights as they were. -/
theorem left3 (c : Dev nD) (t : Fin cfg1.N) : (tcData Wv 0 c).after 3 t = blockAt Wv c 3 t := by dsimp only [tcData]
/-- The body leaves the bias as it was. -/
theorem left4 (c : Dev nD) (t : Fin cfg1.N) : (tcData Wv 0 c).after 4 t = blockAt Wv c 4 t := by dsimp only [tcData]
/-- The body leaves its computed block in the result window. -/
theorem left5 (c : Dev nD) (t : Fin cfg1.N) : (tcData Wv 0 c).after 5 t
    = probs (blockAt Wv c 0 t) (blockAt Wv c 1 t) (blockAt Wv c 2 t) (blockAt Wv c 3 t) (blockAt Wv c 4 t) := by dsimp only [tcData]

/-- Each input's staging buffer holds its block when the body starts, freshly fetched or kept from an earlier point. -/
theorem found0 (c : Dev nD) (t : Fin cfg1.N) (d) : (tcData Wv 0 c).before 0 t d = blockAt Wv c 0 t :=
  ((tcData Wv 0 c).before_in_eq_fetched 0 rfl (fun _ => rfl) (fun _ _ _ => rfl)
    (fun t => by rw [left0]; unfold Dat.blockOf blockAt; rw [tcA]; try rfl) t d).trans (by unfold Dat.fetched Dat.blockOf blockAt; rw [tcA]; try rfl)
/-- The body finds the second input block. -/
theorem found1 (c : Dev nD) (t : Fin cfg1.N) (d) : (tcData Wv 0 c).before 1 t d = blockAt Wv c 1 t :=
  ((tcData Wv 0 c).before_in_eq_fetched 1 rfl (fun _ => rfl) (fun _ _ _ => rfl)
    (fun t => by rw [left1]; unfold Dat.blockOf blockAt; rw [tcA]; try rfl) t d).trans (by unfold Dat.fetched Dat.blockOf blockAt; rw [tcA]; try rfl)
/-- The body finds the activity weights. -/
theorem found2 (c : Dev nD) (t : Fin cfg1.N) (d) : (tcData Wv 0 c).before 2 t d = blockAt Wv c 2 t :=
  ((tcData Wv 0 c).before_in_eq_fetched 2 rfl (fun _ => rfl) (fun _ _ _ => rfl)
    (fun t => by rw [left2]; unfold Dat.blockOf blockAt; rw [tcA]; try rfl) t d).trans (by unfold Dat.fetched Dat.blockOf blockAt; rw [tcA]; try rfl)
/-- The body finds the trace weights. -/
theorem found3 (c : Dev nD) (t : Fin cfg1.N) (d) : (tcData Wv 0 c).before 3 t d = blockAt Wv c 3 t :=
  ((tcData Wv 0 c).before_in_eq_fetched 3 rfl (fun _ => rfl) (fun _ _ _ => rfl)
    (fun t => by rw [left3]; unfold Dat.blockOf blockAt; rw [tcA]; try rfl) t d).trans (by unfold Dat.fetched Dat.blockOf blockAt; rw [tcA]; try rfl)
/-- The body finds the bias. -/
theorem found4 (c : Dev nD) (t : Fin cfg1.N) (d) : (tcData Wv 0 c).before 4 t d = blockAt Wv c 4 t :=
  ((tcData Wv 0 c).before_in_eq_fetched 4 rfl (fun _ => rfl) (fun _ _ _ => rfl)
    (fun t => by rw [left4]; unfold Dat.blockOf blockAt; rw [tcA]; try rfl) t d).trans (by unfold Dat.fetched Dat.blockOf blockAt; rw [tcA]; try rfl)

/-! ## The body at a grid point -/

/-- The staging buffers as the body is given them at point `t`, with the pipeline's invariant and what the core owes. -/
def bodyGets (c : Dev nD) (t : Fin cfg1.N) : sProp 𝕄 :=
  iprop((tcData Wv 0 c).Φ t.castSucc ∗ (tcData Wv 0 c).owesAt none t.castSucc
    ∗ (∃ d, owns (c : Thread nD τ) (st1_0 t) fullShare ((tcData Wv 0 c).before 0 t d))
    ∗ (∃ d, owns (c : Thread nD τ) (st1_1 t) fullShare ((tcData Wv 0 c).before 1 t d))
    ∗ (∃ d, owns (c : Thread nD τ) (st1_2 t) fullShare ((tcData Wv 0 c).before 2 t d))
    ∗ (∃ d, owns (c : Thread nD τ) (st1_3 t) fullShare ((tcData Wv 0 c).before 3 t d))
    ∗ (∃ d, owns (c : Thread nD τ) (st1_4 t) fullShare ((tcData Wv 0 c).before 4 t d))
    ∗ (∃ d, owns (c : Thread nD τ) (st1_5 t) fullShare ((tcData Wv 0 c).before 5 t d)))

/-- The same as the body leaves them. -/
def bodyLeaves (c : Dev nD) (t : Fin cfg1.N) : sProp 𝕄 :=
  iprop((tcData Wv 0 c).Φ t.succ ∗ (tcData Wv 0 c).owesAt none t.succ
    ∗ owns (c : Thread nD τ) (st1_0 t) fullShare ((tcData Wv 0 c).after 0 t)
    ∗ owns (c : Thread nD τ) (st1_1 t) fullShare ((tcData Wv 0 c).after 1 t)
    ∗ owns (c : Thread nD τ) (st1_2 t) fullShare ((tcData Wv 0 c).after 2 t)
    ∗ owns (c : Thread nD τ) (st1_3 t) fullShare ((tcData Wv 0 c).after 3 t)
    ∗ owns (c : Thread nD τ) (st1_4 t) fullShare ((tcData Wv 0 c).after 4 t)
    ∗ owns (c : Thread nD τ) (st1_5 t) fullShare ((tcData Wv 0 c).after 5 t))

/-- The body at a grid point, from what it is given to what it leaves. -/
theorem body_at (c : Dev nD) (t : Fin cfg1.N) :
    bodyGets Wv c t ⊢ wp frame (wpE (defs₀ (F := F)) 𝒱₀ c none) Set.univ (bodyAt1 t) (fun _ => bodyLeaves Wv c t) := by
  unfold bodyGets bodyLeaves bodyAt1
  simp only [found0, found1, found2, found3, found4]
  rw [show (tcData Wv 0 c).Φ t.succ = (tcData Wv 0 c).Φ t.castSucc from rfl,
    show (tcData Wv 0 c).owesAt none t.succ = (tcData Wv 0 c).owesAt none t.castSucc from rfl,
    left0, left1, left2, left3, left4, left5]
  iintro ⟨Hinv, Howe, ⟨%_, Ha⟩, ⟨%_, Ht⟩, ⟨%_, Hwa⟩, ⟨%_, Hwt⟩, ⟨%_, Hb⟩, ⟨%_, Ho⟩⟩
  iapply (body_run c (grid1.coords t) _ _ _ _ _ _ _ _ _ _ _ _ (blockAt Wv c 0 t) (blockAt Wv c 1 t) (blockAt Wv c 2 t) (blockAt Wv c 3 t)
    (blockAt Wv c 4 t) _)
  isplitl [Ha]; · iexact Ha
  isplitl [Ht]; · iexact Ht
  isplitl [Hwa]; · iexact Hwa
  isplitl [Hwt]; · iexact Hwt
  isplitl [Hb]; · iexact Hb
  isplitl [Ho]; · iexists _; iexact Ho
  iintro ⟨Ha, Ht, Hwa, Hwt, Hb, Ho⟩
  isplitl [Hinv]; · iexact Hinv
  isplitl [Howe]; · iexact Howe
  isplitl [Ha]; · iexact Ha
  isplitl [Ht]; · iexact Ht
  isplitl [Hwa]; · iexact Hwa
  isplitl [Hwt]; · iexact Hwt
  isplitl [Hb]; · iexact Hb
  iexact Ho

/-- The body named by the pipeline is the printed one. -/
theorem body_row (t : Fin cfg1.N) : defs₀ (F := F) .tc cfg1.body (cfg1.bodyArgs t (cfg1.slots t)) = bodyAt1 t := by
  rfl

/-- The pipeline's obligation for its body. -/
theorem tc_obligation (c : Dev nD) : BodyObligation (tcData (F := F) Wv 0 c) (defs₀ (F := F)) 𝒱₀ none Set.univ := fun t => by
  rw [bigSep_W1, bigSep_W1, body_row]
  exact triple_restated (body_at Wv c t) rfl .rfl fun _ => .rfl

/-! ## The region -/

/-- The arrays' contents at exit: inputs as they were, the output array as the points wrote it. -/
def Wout (c : Dev nD) : Valuation τ sig (Elt F) :=
  Function.update (Wv c) (Proc.devRef .tc main_v9) ((tcData Wv 0 c).arrAt 5 cfg1.N)

/-- After the call each window's array holds what the pipeline leaves in it. -/
theorem Wout_arr (c : Dev nD) (w : Fin cfg1.W) :
    (tcData Wv 0 c).arrAt w cfg1.N = Wout Wv c (Proc.devRef .tc (Pipeline.arrRef spec1 w)) := by
  have other : ∀ w : Fin cfg1.W, (cfg1.win w).isOut = false → Pipeline.arrRef spec1 w ≠ main_v9 →
      (tcData Wv 0 c).arrAt w cfg1.N = Wout Wv c (Proc.devRef .tc (Pipeline.arrRef spec1 w)) := fun w hi hn => by
    rw [(tcData Wv 0 c).arrAt_in w hi _, tcA, Wout, Function.update_of_ne (StableHlo.devRef_ne_of_ne hn)]
  match w with
  | ⟨0, _⟩ => exact other 0 rfl (by decide)
  | ⟨1, _⟩ => exact other 1 rfl (by decide)
  | ⟨2, _⟩ => exact other 2 rfl (by decide)
  | ⟨3, _⟩ => exact other 3 rfl (by decide)
  | ⟨4, _⟩ => exact other 4 rfl (by decide)
  | ⟨5, _⟩ => exact (Function.update_self (Proc.devRef .tc main_v9) ((tcData Wv 0 c).arrAt 5 cfg1.N) (Wv c)).symm

/-- What the core owes and has recorded between the host program's calls. -/
abbrev quietOwes (c : Dev nD) : sProp 𝕄 :=
  iprop(∃ W, ⌜(K (F := F)).WBelow (T c : Thread nD τ) W 8⌝ ∗ owes (T c : Thread nD τ) (0 : CellTallies nD τ sig (HIx 1)) W)

/-- The call as one step of the host program: its arrays go from `Wv` to `Wout Wv`, and the level of what the core has recorded
    stays bounded. -/
def tcRegion : Pipeline.RegionSeg (pcfgs (F := F)) pins (tcData Wv) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (tc_obligation Wv c).loose
  hwaits c := Pipeline.hwaits_of_owed_zero pcfgs pins (tcData Wv) none _ _ 0 (fun _ _ => rfl) c
  pre c := iprop(StableHlo.held (c.tc : Thread nD τ) (Pipeline.arrRefs spec1) (Wv c) ∗ quietOwes c)
  post c := iprop(StableHlo.held (c.tc : Thread nD τ) (Pipeline.arrRefs spec1) (Wout Wv c) ∗ quietOwes c)
  X _ := BI.emp
  Y _ := BI.emp
  Z _ := BI.emp
  hentry c := by
    rw [Pipeline.ownSems0_none, Pipeline.prefHeld_of_none _ rfl]
    rw [← Pipeline.arrays_held pcfgs pins (tcData Wv) 0 launch1.toP c ((tcData Wv 0 c).share_full fun _ => rfl)
      ((tcData Wv 0 c).arrAt · 0) (Wv c) (fun w => tcA Wv c w)]
    iintro ⟨⟨Ha, ⟨%W, %hW, HO⟩⟩, -, -⟩
    imodintro
    isplitl [Ha]; · iexact Ha
    isplitr; · iempintro
    isplitl [HO]
    · unfold Dat.owesAt Pipeline.owesWithin Dat.bound
      iexists W; isplitr
      · ipureintro; exact fun p hp => Or.inl (hW p hp)
      iexact HO
    isplitr <;> iempintro
  hin c := by
    show iprop(BI.emp ∗ _ ∗ Pipeline.scopedRest spec1 c) ⊢ (Pipeline.scopedRest spec1 c : sProp 𝕄)
    iintro ⟨-, -, Hr⟩
    iexact Hr
  hout c := by
    rw [Pipeline.ownSems0_none]
    show (Pipeline.scopedRest spec1 c : sProp 𝕄) ⊢ iprop(BI.emp ∗ BI.emp ∗ Pipeline.scopedRest spec1 c)
    iintro Hr
    isplitr; · iempintro
    isplitr; · iempintro
    iexact Hr
  hexit c := by
    rw [← Pipeline.arrays_held pcfgs pins (tcData Wv) 0 launch1.toP c ((tcData Wv 0 c).share_full fun _ => rfl)
      ((tcData Wv 0 c).arrAt · cfg1.N) (Wout Wv c) (fun w => Wout_arr Wv c w)]
    unfold Dat.owesAt Pipeline.owesWithin Dat.bound
    iintro ⟨Ha, ⟨%W, %hW, HO⟩, -, -⟩
    imodintro
    isplitl [Ha]; · iexact Ha
    iexists W; isplitr
    · ipureintro
      intro p hp
      rcases hW hp with h | ⟨w, s, rfl⟩
      · exact h
      · exact Nat.zero_le _
    iexact HO

/-! ## The output array, block by block -/

/-- Different grid points write different blocks. -/
theorem out_index_inj : ∀ t t' : Fin cfg1.N, win1_5.index t = win1_5.index t' → t = t' :=
  (by decide +kernel : ∀ t t' : Fin grid1.N, win1_5.index t = win1_5.index t' → t = t')

/-- Block `t` of the output array at exit is `probs` of the input blocks at `t`. -/
theorem out_block (c : Dev nD) (t : Fin cfg1.N) :
    ((cfg1.win 5).blk t).view.read (Elt F) (Wout Wv c (Proc.devRef .tc main_v9))
      = (cfg1.win 5).cut (grid1.coords t)
          (probs (blockAt Wv c 0 t) (blockAt Wv c 1 t) (blockAt Wv c 2 t) (blockAt Wv c 3 t) (blockAt Wv c 4 t)) := by
  rw [← left5 Wv c t]
  exact (congrArg _ (Wout_arr Wv c 5).symm).trans ((tcData Wv 0 c).read_blk_arrAt_eq_flushed 5
    (fun t t' _ _ hne => (cfg1.win 5).disjoint_blk fun h => hne (out_index_inj t t' h)) cfg1.N t t.isLt (flush1_5 t))

end Cert.KernelIdeal.Sc

end
-- ==== Proof.MainKI.lean ====
/-
  The host program: two lists of row numbers laid flat, the SparseCore call that gathers their rows, the operations that make the
  TensorCore call's operands, that call; and the whole program's run, every unscoped buffer at named contents.
-/
module

public import proofs.«01_k».proof.Proof.ArgsKI
public import proofs.«01_k».proof.Proof.TcKI
public import Idealize.ShloMosaic.Lib.Pipeline.Sound

@[expose] public section

set_option maxRecDepth 16384

noncomputable section

namespace Cert.KernelIdeal.Sc

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs)
open Idealize.ShloMosaic.StableHlo (held)

variable {F : FTy → Type} [FloatOps F]

local notation "𝕄" => MT nD τ sig (HIx 1) (Elt F) ℕ UU ℕ

/-! ## The program's host operations and the contents they leave -/

/-- Before the SparseCore call: the activity numbers and the trace numbers as flat lists. -/
abbrev opsBefore : List (HloOp τ sig (Elt F)) :=
  [ StableHlo.reshape main_arg1 main_v0 (rfl : (.i32 : EltTy) = .i32) shapeCasts_S16384x20_S327680,
    StableHlo.reshape main_arg0 main_v1 (rfl : (.i32 : EltTy) = .i32) shapeCasts_S16384x1_S16384 ]

/-- Between the calls: the gathered activity rows side by side, the weight table's two parts, the bias as a row. -/
abbrev opsBetween : List (HloOp τ sig (Elt F)) :=
  [ StableHlo.reshape main_v2_0 main_v3 (rfl : (.f32 : EltTy) = .f32) shapeCasts_S327680x128_S16384x2560,
    StableHlo.unary main_arg4 main_v4 ((extractStridedSlice S2560x1000 ![0, 0] · slices_S2688x1000_S2560x1000_0_0) : (⟨S2688x1000, .f32⟩ : BufTy).Contents (Elt F) → (⟨S2560x1000, .f32⟩ : BufTy).Contents (Elt F)),
    StableHlo.unary main_v4 main_v5 ((truncf .bf16 · bitsLt_bf16_f32) : (⟨S2560x1000, .f32⟩ : BufTy).Contents (Elt F) → (⟨S2560x1000, .bf16⟩ : BufTy).Contents (Elt F)),
    StableHlo.unary main_arg4 main_v6 ((extractStridedSlice S128x1000 ![2560, 0] · slices_S2688x1000_S128x1000_2560_0) : (⟨S2688x1000, .f32⟩ : BufTy).Contents (Elt F) → (⟨S128x1000, .f32⟩ : BufTy).Contents (Elt F)),
    StableHlo.unary main_v6 main_v7 ((truncf .bf16 · bitsLt_bf16_f32) : (⟨S128x1000, .f32⟩ : BufTy).Contents (Elt F) → (⟨S128x1000, .bf16⟩ : BufTy).Contents (Elt F)),
    StableHlo.reshape main_arg5 main_v8 (rfl : (.f32 : EltTy) = .f32) shapeCasts_S1000_S1x1000 ]

/-- The host program is those operations around its two calls. -/
theorem main_eq (d : Dev nD) : main (F := F) d
    = (StableHlo.seq opsBefore >>= fun _ => (K (F := F)).run d 0 >>= fun _ => StableHlo.seq opsBetween >>= fun _ =>
        Prog.lift (.customCall (SparseCore.inner (Pipeline.entry 0)) ())) := by
  simp only [main, opsBefore, opsBetween, StableHlo.seq, bind_assoc, pure_bind, bind_pure_unit]

variable (m : (ℓ : Loc nD τ sig) → Buf (Elt F) ℓ) (ρ : Dev nD → PrngReg)

/-- The buffers at launch, and when the SparseCore call starts. -/
abbrev W0 (d : Dev nD) : Valuation τ sig (Elt F) := fun b => m (d, b)
abbrev W1 (d : Dev nD) : Valuation τ sig (Elt F) := StableHlo.after opsBefore (W0 m d)

/-- The call's two lists of row numbers. -/
abbrev xA (d : Dev nD) : Buf (Elt F) (actLoc d) := W1 m d (Proc.devRef .tc main_v0)
abbrev xT (d : Dev nD) : Buf (Elt F) (trLoc d) := W1 m d (Proc.devRef .tc main_v1)

/-- The buffers when it ends: the two arrays of rows gathered. -/
abbrev W2 (d : Dev nD) : Valuation τ sig (Elt F) :=
  Function.update (Function.update (W1 m d) (Proc.devRef .tc main_v2_0) (gA m (xA m) d)) (Proc.devRef .tc main_v2_1) (gT m (xT m) d)
/-- When the TensorCore call starts, and when it ends. -/
abbrev W3 (d : Dev nD) : Valuation τ sig (Elt F) := StableHlo.after opsBetween (W2 m d)
abbrev W4 (d : Dev nD) : Valuation τ sig (Elt F) := Wout (W3 m) d

/-! ## The SparseCore call among the held buffers -/

/-- The call's six arrays. -/
abbrev sixRefs : Finset (Ref sig .tc) := {main_v0, main_v1, main_arg2, main_arg3, main_v2_0, main_v2_1}
abbrev six : Finset (DevRef τ sig) := sixRefs.map ⟨Proc.devRef (sig := sig) .tc, Proc.devRef_injective _⟩

/-- The six arrays of the SparseCore call are among those the program holds. -/
theorem six_sub : six ⊆ ucRefs τ sig := fun b hb => by
  obtain ⟨r, hr, rfl⟩ := Finset.mem_map.mp hb
  have hu : r.isScoped = false := (by decide : ∀ r ∈ sixRefs, r.isScoped = false) r hr
  exact Finset.mem_filter.mpr ⟨StableHlo.devRef_mem_tcRefs _, fun h => Bool.false_ne_true (hu.symm.trans h)⟩

/-- Holding the six arrays is holding each of them. -/
theorem held_six (d : Dev nD) (W : Valuation τ sig (Elt F)) : (held (T d : Thread nD τ) six W : sProp 𝕄)
    = iprop((actLoc d ↦{fullShare} W (Proc.devRef .tc main_v0)) ∗ (trLoc d ↦{fullShare} W (Proc.devRef .tc main_v1))
        ∗ (tabALoc d ↦{fullShare} W (Proc.devRef .tc main_arg2)) ∗ (tabTLoc d ↦{fullShare} W (Proc.devRef .tc main_arg3))
        ∗ (outALoc d ↦{fullShare} W (Proc.devRef .tc main_v2_0)) ∗ (outTLoc d ↦{fullShare} W (Proc.devRef .tc main_v2_1))) := by
  unfold held
  rw [bigSep_map, SparseCore.bigSep_insert' (by decide), SparseCore.bigSep_insert' (by decide), SparseCore.bigSep_insert' (by decide),
    SparseCore.bigSep_insert' (by decide), SparseCore.bigSep_insert' (by decide), bigSep_singleton]
  rfl

/-- A buffer that the first operations leave alone. -/
theorem W1_kept (d : Dev nD) (r : Ref sig .tc) (h : r ∉ [main_v0, main_v1]) : W1 m d (Proc.devRef .tc r) = m (d, Proc.devRef .tc r) :=
  StableHlo.after_of_writes_sub (W := [main_v0, main_v1]) opsBefore (W0 m d) (StableHlo.forall_writes_sub_of_map rfl) h

/-- The SparseCore call changes none but its two results. -/
theorem W2_kept (d : Dev nD) (r : Ref sig .tc) (h : r ∉ [main_v2_0, main_v2_1]) :
    W2 m d (Proc.devRef .tc r) = W1 m d (Proc.devRef .tc r) := by
  have h0 : r ≠ main_v2_0 := fun e => h (by rw [e]; decide)
  have h1 : r ≠ main_v2_1 := fun e => h (by rw [e]; decide)
  unfold W2
  rw [Function.update_of_ne (StableHlo.devRef_ne_of_ne h1), Function.update_of_ne (StableHlo.devRef_ne_of_ne h0)]

/-- After the SparseCore call the first result holds the gathered activity rows. -/
theorem W2_outA (d : Dev nD) : W2 m d (Proc.devRef .tc main_v2_0) = gA m (xA m) d := by
  unfold W2
  rw [Function.update_of_ne (StableHlo.devRef_ne_of_ne (by decide)), Function.update_self]

/-- After the SparseCore call the second result holds the gathered trace rows. -/
theorem W2_outT (d : Dev nD) : W2 m d (Proc.devRef .tc main_v2_1) = gT m (xT m) d := by
  unfold W2
  rw [Function.update_self]

omit [FloatOps F] in
/-- Brackets of a separating conjunction may be moved. -/
theorem regroup (A B C : sProp 𝕄) : iprop((A ∗ B) ∗ C) = iprop(A ∗ B ∗ C) :=
  equiv_iff.mp ⟨show iprop((A ∗ B) ∗ C) ⊢ iprop(A ∗ B ∗ C) from by
      iintro ⟨⟨Ha, Hb⟩, Hc⟩
      isplitl [Ha]; · iexact Ha
      isplitl [Hb] <;> iassumption,
    show iprop(A ∗ B ∗ C) ⊢ iprop((A ∗ B) ∗ C) from by
      iintro ⟨Ha, Hb, Hc⟩
      isplitr [Hc]; · isplitl [Ha] <;> iassumption
      iexact Hc⟩

/-- The six arrays when the call starts, as the tasks' parts. -/
theorem st_eq (d : Dev nD) : (bigSep Finset.univ fun c : Fin ((K (F := F)).nCore 0) => (P m (xA m) (xT m)).st 0 d c)
    = (held (T d : Thread nD τ) six (W1 m d) : sProp 𝕄) := by
  rw [held_six, W1_kept m d main_arg2 (by decide), W1_kept m d main_arg3 (by decide), W1_kept m d main_v2_0 (by decide), W1_kept m d main_v2_1 (by decide)]
  have h := (operands m (xA m) (xT m) d (m (outALoc d)) (m (outTLoc d))).symm
  refine h.trans ?_
  rw [regroup, regroup, regroup]

/-- The six arrays when it ends, from the tasks' parts. -/
theorem dn_eq (d : Dev nD) : (bigSep Finset.univ fun c : Fin ((K (F := F)).nCore 0) => (P m (xA m) (xT m)).dn 0 d c)
    = (held (T d : Thread nD τ) six (W2 m d) : sProp 𝕄) := by
  rw [held_six, W2_outA, W2_outT, W2_kept m d main_v0 (by decide), W2_kept m d main_v1 (by decide), W2_kept m d main_arg2 (by decide),
    W2_kept m d main_arg3 (by decide), W1_kept m d main_arg2 (by decide), W1_kept m d main_arg3 (by decide)]
  have h := (operands m (xA m) (xT m) d (gA m (xA m) d) (gT m (xT m) d)).symm
  refine h.trans ?_
  rw [regroup, regroup, regroup]

/-- The SparseCore call, all unscoped buffers held: the two arrays of rows end gathered, the rest as it was. -/
theorem sc_call (κ : GSem nD τ sig → ℕ) (d : Dev nD) (Φ : PUnit → sProp 𝕄) :
    iprop((K (F := F)).ctx EH (P m (xA m) (xT m)) κ ∗ (K (F := F)).tcSt EH d 0 ∗ held (T d : Thread nD τ) (ucRefs τ sig) (W1 m d)
        ∗ (iprop((K (F := F)).tcSt EH d 1 ∗ held (T d : Thread nD τ) (ucRefs τ sig) (W2 m d)) -∗ Φ ⟨⟩))
      ⊢ wp frame (wpE ((K (F := F)).defs (D (F := F))) 𝒱 (T d) none) Set.univ ((K (F := F)).run d 0) Φ := by
  have rest : (held (T d : Thread nD τ) (ucRefs τ sig \ six) (W1 m d) : sProp 𝕄) = held (T d : Thread nD τ) (ucRefs τ sig \ six) (W2 m d) := by
    refine StableHlo.held_congr _ fun b hb => ?_
    have hn := (Finset.mem_sdiff.mp hb).2
    have ne : ∀ r ∈ sixRefs, b ≠ Proc.devRef .tc r := fun r hr e => hn (e ▸ Finset.mem_map_of_mem _ hr)
    unfold W2
    rw [Function.update_of_ne (ne _ (by decide)), Function.update_of_ne (ne _ (by decide))]
  rw [StableHlo.held_sub_split (T d : Thread nD τ) six_sub (W1 m d), StableHlo.held_sub_split (T d : Thread nD τ) six_sub (W2 m d), rest]
  iintro ⟨#Hctx, Hst, ⟨H6, Hr⟩, Hk⟩
  iapply ((K (F := F)).wp_run (D (F := F)) 𝒱 (EH := EH) (P := P m (xA m) (xT m)) κ d 0) $$ [Hst H6 Hr Hk]
  isplitr; · iexact Hctx
  isplitl [Hst]; · iexact Hst
  isplitl [H6]
  · rw [st_eq]; iexact H6
  iintro ⟨Hst, Hdn⟩
  ihave H6 := (Entails.of_eq (dn_eq m d)) $$ Hdn
  iapply Hk
  isplitl [Hst]; · iexact Hst
  isplitl [H6]; · iexact H6
  iexact Hr

/-! ## The TensorCore call among the held buffers -/

/-- The pipeline's rounds, inside the certificate's ghost state. -/
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F) : Emb UP 𝕄).LandsIn (upEmb : UEmb _ 𝕄) := by unfold EP; infer_instance

variable [∀ e, Nonempty (Elt F e)]

/-- The host program's second call is the pipeline's own, among the calls of both kinds. -/
theorem call_lifted : (Prog.lift (.customCall (SparseCore.inner (Pipeline.entry 0)) ()) :
      Prog (TpuEff nD τ sig (Elt F) (SparseCore.Sig (ΛP (F := F)) 1) .tc) PUnit)
    = SparseCore.liftProg (Λ := ΛP (F := F)) (Q := 1)
        (.op (.customCall (Pipeline.entry (0 : Fin 1)) ()) .ret : Prog (TpuEff nD τ sig (Elt F) (ΛP (F := F)) .tc) PUnit) := rfl

/-- What the pipeline's cells start with on device `d`. -/
abbrev pipeGhost (d : Dev nD) : sProp 𝕄 :=
  iprop(Pipeline.cellsGhost (Pipeline.pin (pcfgs (F := F)) pins) EP 0 d ∗ Pipeline.toksInit (Pipeline.pin (pcfgs (F := F)) pins) EP 0 d)

/-- The TensorCore call, all unscoped buffers held: its output array ends as the grid's points wrote it, the rest as it was. -/
theorem tc_call (Wv : Dev nD → Valuation τ sig (Elt F)) (d : Dev nD) (Φ : PUnit → sProp 𝕄) :
    iprop(iprop(boundary (T d : Thread nD τ) ∗ held (T d : Thread nD τ) (ucRefs τ sig) (Wv d) ∗ quietOwes d)
        ∗ levAts (K (F := F)).L (K (F := F)).lev ∗ pipeGhost d
        ∗ (iprop(boundary (T d : Thread nD τ) ∗ held (T d : Thread nD τ) (ucRefs τ sig) (Wout Wv d) ∗ quietOwes d) -∗ Φ ⟨⟩))
      ⊢ wp frame (wpE ((K (F := F)).defs (D (F := F))) 𝒱 (T d) none) Set.univ
          (Prog.lift (.customCall (SparseCore.inner (Pipeline.entry 0)) ())) Φ := by
  have rest : (held (T d : Thread nD τ) (ucRefs τ sig \ Pipeline.arrRefs spec1) (Wv d) : sProp 𝕄)
      = held (T d : Thread nD τ) (ucRefs τ sig \ Pipeline.arrRefs spec1) (Wout Wv d) := by
    refine StableHlo.held_congr _ fun b hb => ?_
    have hn := (Finset.mem_sdiff.mp hb).2
    have ne : b ≠ Proc.devRef .tc main_v9 := fun e =>
      hn (e ▸ Finset.mem_map_of_mem _ (Finset.mem_image_of_mem (Pipeline.arrRef spec1) (Finset.mem_univ (5 : Fin 6))))
    unfold Wout
    rw [Function.update_of_ne ne]
  have sub : Pipeline.arrRefs (τ := τ) spec1 ⊆ ucRefs τ sig := Pipeline.arrRefs_sub_ucRefs spec1 launch1.win.arr_unscoped
  rw [StableHlo.held_sub_split (T d : Thread nD τ) sub (Wv d), StableHlo.held_sub_split (T d : Thread nD τ) sub (Wout Wv d), rest]
  rw [call_lifted]
  refine BI.Entails.trans ?_ ((K (F := F)).wp_liftProg (D (F := F)) 𝒱 (T d) Set.univ none _ _)
  refine BI.Entails.trans ?_ (Pipeline.RegionSeg.wp pcfgs pins (tcData Wv) none cellOf_inj (EP (F := F)) defs₀ 𝒱₀ (K (F := F)).L (K (F := F)).lev
    (tcRegion Wv) d none (fun _ h => by simp at h) .ret Φ)
  change (_ : sProp 𝕄) ⊢ _
  iintro ⟨⟨Hb, ⟨Ha, Hr⟩, HO⟩, Hlev, ⟨Hg, Ht⟩, Hk⟩
  isplitl [Hr Hk]
  · iintro ⟨Hb, Hp⟩
    ihave Hp := (show ((tcRegion Wv).post d : sProp 𝕄) ⊢ iprop(held (T d : Thread nD τ) (Pipeline.arrRefs spec1) (Wout Wv d) ∗ quietOwes d) from .rfl) $$ Hp
    icases Hp with ⟨Ha, HO⟩
    rw [wp_ret]
    imodintro
    iapply Hk
    isplitl [Hb]; · iexact Hb
    isplitl [Ha Hr]
    · isplitl [Ha]; · iexact Ha
      iexact Hr
    iexact HO
  isplitl [Hb]; · iexact Hb
  isplitl [Ha HO]
  · iapply (show iprop(held (T d : Thread nD τ) (Pipeline.arrRefs spec1) (Wv d) ∗ quietOwes d) ⊢ ((tcRegion Wv).pre d : sProp 𝕄) from .rfl)
    isplitl [Ha]; · iexact Ha
    iexact HO
  isplitl [Hlev]; · iexact Hlev
  isplitl [Hg]; · iexact Hg
  iexact Ht

/-! ## The host program's run -/

/-- What device `d` ends with: every unscoped buffer at its final contents. -/
abbrev FIN (d : Dev nD) : sProp 𝕄 := held (T d : Thread nD τ) (ucRefs τ sig) (W4 m d)

/-- The operations before the SparseCore call touch only arrays the program holds. -/
theorem opsBefore_sub : ∀ op ∈ (opsBefore : List (HloOp τ sig (Elt F))), op.bufs ⊆ ucRefs τ sig := fun op h => by
  refine Pipeline.sub_ucRefs op ?_
  simp only [List.mem_cons, List.not_mem_nil, or_false] at h
  rcases h with rfl | rfl <;> exact StableHlo.reshape_bufs_sub ..

/-- The operations between the two calls touch only arrays the program holds. -/
theorem opsBetween_sub : ∀ op ∈ (opsBetween : List (HloOp τ sig (Elt F))), op.bufs ⊆ ucRefs τ sig := fun op h => by
  refine Pipeline.sub_ucRefs op ?_
  simp only [List.mem_cons, List.not_mem_nil, or_false] at h
  rcases h with rfl | rfl | rfl | rfl | rfl | rfl
  exacts [StableHlo.reshape_bufs_sub .., StableHlo.unary_bufs_sub .., StableHlo.unary_bufs_sub .., StableHlo.unary_bufs_sub ..,
    StableHlo.unary_bufs_sub .., StableHlo.reshape_bufs_sub ..]

/-- The operations before the SparseCore call need no fresh array. -/
theorem opsBefore_fresh : ∀ op ∈ (opsBefore : List (HloOp τ sig (Elt F))), op.fresh = ∅ := fun op h => by
  simp only [List.mem_cons, List.not_mem_nil, or_false] at h
  rcases h with rfl | rfl <;> rfl

/-- The operations between the two calls need no fresh array. -/
theorem opsBetween_fresh : ∀ op ∈ (opsBetween : List (HloOp τ sig (Elt F))), op.fresh = ∅ := fun op h => by
  simp only [List.mem_cons, List.not_mem_nil, or_false] at h
  rcases h with rfl | rfl | rfl | rfl | rfl | rfl <;> rfl

/-- The TensorCore's state after the one SparseCore call, its debt opened: nothing owed, what is recorded at a level of 8 at most. -/
theorem tcSt_open (d : Dev nD) : ((K (F := F)).tcSt EH d 1 : sProp 𝕄)
    ⊢ iprop(quietOwes d ∗ (iprop(quietOwes d) -∗ (K (F := F)).tcSt EH d 1)) := by
  unfold SparseCore.Cfg.tcSt quietOwes
  rw [(K (F := F)).Otc_end d (le_refl 1)]
  iintro ⟨Ho, Hr⟩
  isplitl [Ho]; · iexact Ho
  iintro Ho
  isplitl [Ho]; · iexact Ho
  iexact Hr

/-- The host program on device `d`'s TensorCore, from its buffers as launched to its buffers at `W4`. -/
theorem hmain (κ : GSem nD τ sig → ℕ) (d : Dev nD) :
    iprop((K (F := F)).ctx EH (P m (xA m) (xT m)) κ ∗ (K (F := F)).tcSt EH d 0 ∗ (K (F := F)).tcRes m ρ d ∗ pipeGhost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq]
  rw [show (unscopedBufs d (fun b => m ((T d : Thread nD τ).loc b)) : sProp 𝕄) = held (T d : Thread nD τ) (ucRefs τ sig) (W0 m d) from
    Pipeline.unscopedBufs_held d (W0 m d)]
  iintro ⟨#Hctx, Hst, ⟨Hb, Hu, Hts, -⟩, Hg⟩
  iapply (StableHlo.wp_seq 𝒱 none Set.univ d (ucRefs τ sig) _ opsBefore opsBefore_sub opsBefore_fresh (W0 m d)) $$ [Hb Hu]
  · isplitl [Hb]; · iexact Hb
    iexact Hu
  iintro ⟨Hb, Hu⟩
  rw [wp_bind]
  iapply (sc_call m κ d _)
  isplitr; · iexact Hctx
  isplitl [Hst]; · iexact Hst
  isplitl [Hu]; · iexact Hu
  iintro ⟨Hst, Hu⟩
  iapply (StableHlo.wp_seq 𝒱 none Set.univ d (ucRefs τ sig) _ opsBetween opsBetween_sub opsBetween_fresh (W2 m d)) $$ [Hb Hu]
  · isplitl [Hb]; · iexact Hb
    iexact Hu
  iintro ⟨Hb, Hu⟩
  ihave Hst' := (tcSt_open d) $$ Hst
  icases Hst' with ⟨HO, Hback⟩
  ihave #Hlev := ((K (F := F)).ctx_levAts (EH := EH) (P := P m (xA m) (xT m)) κ) $$ Hctx
  iapply (tc_call (W3 m) d _)
  isplitl [Hb Hu HO]
  · isplitl [Hb]; · iexact Hb
    isplitl [Hu]; · iexact Hu
    iexact HO
  isplitr; · iexact Hlev
  isplitl [Hg]; · iexact Hg
  iintro ⟨Hb, Hu, HO⟩
  isplitl [Hback HO]
  · iapply Hback; iexact HO
  isplitl [Hu]; · iexact Hu
  isplitl [Hb]; · iexact Hb
  iexact Hts

/-! ## The launch -/

/-- The ghost state at launch: the handshakes' rounds and the pipeline's. -/
def u₀ : UU := (initOf (K (F := F)).hsCells (K (F := F)).hsToks,
  (initOf (Pipeline.cells (Pipeline.pin (pcfgs (F := F)) pins) cellOf_inj) (Pipeline.launchToks (Pipeline.pin (pcfgs (F := F)) pins) cellOf_inj), 1))

omit [∀ e, Nonempty (Elt F e)] [FloatOps F] in
/-- A product over the only pipeline is its one factor. -/
theorem one_pipe (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

/-- The ghost state at the start splits into the shares that the proof hands out. -/
theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P m (xA m) (xT m)).x q thr) := by
  unfold u₀
  iintro Hu
  ihave H := (ownU_pair (initOf (K (F := F)).hsCells (K (F := F)).hsToks) _) $$ Hu
  icases H with ⟨HH, HR⟩
  ihave HR := (show (BI.own (embR ((initOf (Pipeline.cells (Pipeline.pin (pcfgs (F := F)) pins) cellOf_inj) (Pipeline.launchToks (Pipeline.pin (pcfgs (F := F)) pins) cellOf_inj), 1) : UP × Counters)) : sProp 𝕄)
      ⊢ BI.own (EP (F := F) (initOf (Pipeline.cells (Pipeline.pin (pcfgs (F := F)) pins) cellOf_inj) (Pipeline.launchToks (Pipeline.pin (pcfgs (F := F)) pins) cellOf_inj))) from .rfl) $$ HR
  imod (Pipeline.fund_ghost (Pipeline.pin (pcfgs (F := F)) pins) (EP (F := F)) cellOf_inj) $$ HR with ⟨Hg, Ht⟩
  imodintro
  isplitl [HH]; · iexact HH
  isplitl [Hg Ht]
  · ihave Hg := (Entails.of_eq (one_pipe fun p c => Pipeline.cellsGhost (Pipeline.pin (pcfgs (F := F)) pins) (EP (F := F)) p c)) $$ Hg
    ihave Ht := (Entails.of_eq (one_pipe fun p c => Pipeline.toksInit (Pipeline.pin (pcfgs (F := F)) pins) (EP (F := F)) p c)) $$ Ht
    rw [bigSep_sep']
    isplitl [Hg]; · iexact Hg
    iexact Ht
  rw [show (bigSep Finset.univ fun thr : Thread nD τ => bigSep Finset.univ fun q : Fin 1 => (P (F := F) m (xA m) (xT m)).x q thr) = bigSep Finset.univ fun _ => iprop(emp) from
      bigSep_congr fun _ _ => bigSep_univ_of_subsingleton (0 : Fin 1),
    show (bigSep Finset.univ fun _ : Thread nD τ => iprop(emp)) = (iprop(emp) : sProp 𝕄) from bigSep_emp_const _]
  iempintro

/-- The final memory has device `d`'s unscoped buffers at `W4`. -/
def fq (d : Dev nD) (s : Phys nD τ sig (Elt F)) : Prop := ∀ b : {b : DevRef τ sig // b ∈ ucRefs τ sig}, s.mem.mem (d, b.1) = W4 m d b.1

/-- What is held at the end says what the final memory is. -/
theorem hfin (d : Dev nD) (s : Phys nD τ sig (Elt F)) : iprop(FIN m d ∗ SI s) ⊢ (⌜fq m d s⌝ : sProp 𝕄) := by
  refine (forall_intro fun b => ?_).trans pure_forall.2
  iintro ⟨Hu, HSI⟩
  ihave Hb := (show (FIN m d : sProp 𝕄) ⊢ ((d, b.1) ↦{fullShare} W4 m d b.1) from bigSep_elim b.2) $$ Hu
  ihave H := (SI_pointsTo_agree (st := s) (ℓ := (d, b.1)) (I := Finset.univ) (q := fullShare) (f := W4 m d b.1)) $$ [HSI Hb]
  · isplitl [HSI] <;> iassumption
  icases H with %h
  ipureintro; exact funext fun i => h i (Finset.mem_univ i)

/-- The whole program's run, for any values, the row numbers in range: it ends, with every unscoped buffer at `W4` and every
    semaphore counter at zero. -/
theorem run_all (hr : InRange (xA m) (xT m)) :
    θ_run defs (threads (F := F)) ⟨m, fun _ => 0, ρ⟩ (fun r => (∀ (d : Dev nD) (b : Ref sig .tc), b.isScoped = false →
      r.2.mem ((T d : Thread nD τ).loc b) = W4 m d (Proc.devRef .tc b)) ∧ r.2.sem = fun _ => 0) :=
  SparseCore.Cfg.θ_run_sc_quiescent (K := K (F := F)) (D := D (F := F)) (𝒱 := 𝒱) (EH := EH) (P := P m (xA m) (xT m)) (A := ∅) facts v₀
    (fun q hq => match q with | 0 => nomatch hq)
    (fun q _ => match q with | 0 => tileObl m (xA m) (xT m) facts hr)
    (fun q _ => match q with | 0 => SparseCore.Cfg.VecSplit.of_plain (vecSplit m (xA m) (xT m)))
    m ρ main (fun d => pipeGhost d) (FIN m) (u₀ (F := F)) (sep_elim_left.trans (hu₀ m)) (hmain m ρ) (fq m) (hfin m) _
    (fun _ h hz => ⟨fun d b hb => h d ⟨Proc.devRef .tc b, Finset.mem_filter.mpr ⟨StableHlo.devRef_mem_tcRefs _,
      fun h => Bool.false_ne_true (hb.symm.trans h)⟩⟩, hz⟩)

end Cert.KernelIdeal.Sc

end
-- ==== Proof.FrameKI.lean ====
/-
  The kernel's frame: its precondition puts the row numbers in range, so it runs; its arguments end as they were and every semaphore
  counter at zero.
-/
module

public import proofs.«01_k».proof.Proof.MainKI
public import proofs.«01_k».proof.Proof.Range

@[expose] public section

noncomputable section

namespace Cert.KernelIdeal.Sc

open Cert.KernelIdeal Cert.KernelIdeal.Gen

open Idealize.ShloMosaic Idealize.ShloMosaic.TcCoe
open Idealize.ShloMosaic.SparseCore (S V T)
open Idealize.SL Idealize.SL.Sem

variable {F : FTy → Type} [FloatOps F]
variable (m : (ℓ : Loc nD τ sig) → Buf (Elt F) ℓ) (ρ : Dev nD → PrngReg)

/-! ## The two lists of row numbers -/

/-- The list of activity numbers is the array of them laid flat. -/
theorem xA_eq (d : Dev nD) : xA m d = shapeCast S327680 (m ((T d : Thread nD τ).loc main_arg1)) shapeCasts_S16384x20_S327680 := by
  unfold xA W1 opsBefore
  after_results_simp <;> rfl

/-- The list of trace numbers is the array of them laid flat. -/
theorem xT_eq (d : Dev nD) : xT m d = shapeCast S16384 (m ((T d : Thread nD τ).loc main_arg0)) shapeCasts_S16384x1_S16384 := by
  unfold xT W1 opsBefore
  after_results_simp <;> rfl

/-- The lists are in range where the arrays are. -/
theorem inRange (ht : ∀ d i, (m ((T d : Thread nD τ).loc main_arg0) i : BitVec 32).toNat < 100000)
    (ha : ∀ d i, (m ((T d : Thread nD τ).loc main_arg1) i : BitVec 32).toNat < 1000) : InRange (xA m) (xT m) :=
  ⟨fun d j => by rw [xA_eq]; exact ha d _, fun d j => by rw [xT_eq]; exact ht d _⟩

/-! ## What the program leaves alone -/

/-- A buffer that nothing in the program writes ends as it was. -/
theorem W4_kept (d : Dev nD) (r : Ref sig .tc) (h : r ∉ [main_v0, main_v1, main_v2_0, main_v2_1, main_v3, main_v4, main_v5, main_v6, main_v7, main_v8, main_v9]) :
    W4 m d (Proc.devRef .tc r) = m ((T d : Thread nD τ).loc r) := by
  have hs (W : List (Ref sig .tc)) (hW : W ⊆ [main_v0, main_v1, main_v2_0, main_v2_1, main_v3, main_v4, main_v5, main_v6, main_v7, main_v8, main_v9]) : r ∉ W :=
    fun e => h (hW e)
  have h9 : r ≠ main_v9 := fun e => h (by rw [e]; decide)
  unfold W4 Wout
  rw [Function.update_of_ne (StableHlo.devRef_ne_of_ne h9)]
  refine (StableHlo.after_of_writes_sub (W := [main_v3, main_v4, main_v5, main_v6, main_v7, main_v8]) opsBetween (W2 m d)
    (StableHlo.forall_writes_sub_of_map rfl) (hs _ (by decide))).trans ?_
  rw [W2_kept m d r (hs _ (by decide)), W1_kept m d r (hs _ (by decide))]

variable [∀ e, Nonempty (Elt F e)]

/-- The run, the row numbers in range: the result at `W4`, the arguments as they were, every semaphore counter at zero. -/
theorem run_args (ht : ∀ d i, (m ((T d : Thread nD τ).loc main_arg0) i : BitVec 32).toNat < 100000)
    (ha : ∀ d i, (m ((T d : Thread nD τ).loc main_arg1) i : BitVec 32).toNat < 1000) :
    θ_run defs (threads (F := F)) ⟨m, fun _ => 0, ρ⟩ (fun r => (∀ d : Dev nD,
      r.2.mem ((T d : Thread nD τ).loc main_v9) = W4 m d (Proc.devRef .tc main_v9)
      ∧ r.2.mem ((T d : Thread nD τ).loc main_arg0) = m ((T d : Thread nD τ).loc main_arg0)
      ∧ r.2.mem ((T d : Thread nD τ).loc main_arg1) = m ((T d : Thread nD τ).loc main_arg1)
      ∧ r.2.mem ((T d : Thread nD τ).loc main_arg2) = m ((T d : Thread nD τ).loc main_arg2)
      ∧ r.2.mem ((T d : Thread nD τ).loc main_arg3) = m ((T d : Thread nD τ).loc main_arg3)
      ∧ r.2.mem ((T d : Thread nD τ).loc main_arg4) = m ((T d : Thread nD τ).loc main_arg4)
      ∧ r.2.mem ((T d : Thread nD τ).loc main_arg5) = m ((T d : Thread nD τ).loc main_arg5)) ∧ r.2.sem = fun _ => 0) :=
  (θ_run defs _ _).mono (fun _ h => ⟨fun d => ⟨h.1 d main_v9 rfl,
    (h.1 d main_arg0 rfl).trans (W4_kept m d _ (by decide)), (h.1 d main_arg1 rfl).trans (W4_kept m d _ (by decide)),
    (h.1 d main_arg2 rfl).trans (W4_kept m d _ (by decide)), (h.1 d main_arg3 rfl).trans (W4_kept m d _ (by decide)),
    (h.1 d main_arg4 rfl).trans (W4_kept m d _ (by decide)), (h.1 d main_arg5 rfl).trans (W4_kept m d _ (by decide))⟩, h.2⟩)
    (run_all m ρ (inRange m ht ha))

/-- The kernel's frame claim. -/
theorem frame : Cert.quiescent_KernelIdeal := fun m ρ hpre =>
  (θ_run defs _ _).mono (fun _ h => ⟨fun d => (h.1 d).2, h.2⟩)
    (run_args (F := Ideal) m ρ (fun d => (Cert.Range.of_pre _ _ _ _ _ _ (hpre d)).1) (fun d => (Cert.Range.of_pre _ _ _ _ _ _ (hpre d)).2))

end Cert.KernelIdeal.Sc

end
-- ==== Proof.RefRun.lean ====
/-
  The reference's run: its result as one term of its arguments, the arguments unchanged, every semaphore counter at zero.
-/
module

public import proofs.«01_k».proof.Defs
public import proofs.«01_k».proof.Proof.Gen.ReferenceIdeal
public import proofs.«01_k».proof.Proof.Gen.Pre_in_range
public import proofs.«01_k».proof.Proof.Gen.ReferenceIdeal.Run
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.SL.Sem

/-- The reference's frame claim: a program with no semaphore has every counter at zero. -/
theorem frame : Cert.quiescent_ReferenceIdeal := fun m ρ _ =>
  (θ_run defs _ _).mono (fun r h => ⟨fun c => (h c).2, sem_eq_zero_of_no_sems rfl r.2⟩) (run (F := Ideal) m ρ)

/-- The same from arguments in range. -/
theorem frame_in_range : Cert.quiescent_ReferenceIdeal_pre_in_range := fun m ρ _ => frame m ρ trivial

end Cert.ReferenceIdeal.Value

end
-- ==== Proof.Spec.lean ====
/-
  What the kernel computes, over the extended reals and with no program in sight: each batch row gathers twenty activity rows and one
  trace row, lays them end to end, multiplies by the weight table, adds the bias, and takes the softmax along the row.
-/
module

public import Idealize.ShloMosaic.Lib.ValueIdx
public import Idealize.ShloMosaic.PureOps.Ideal.Laws

@[expose] public section

noncomputable section

open scoped BigOperators

namespace Cert.Soft

open Idealize.ShloMosaic
open Idealize.ShloMosaic.ValueIdx

/-- The greatest of a row of logits. -/
def top (l : Fin 1000 → EReal) : EReal := Finset.univ.fold max ⊥ l

/-- The softmax of a row of logits at one column: the exponential of the logit less the greatest, over the sum of them all. -/
def soft (l : Fin 1000 → EReal) (j : Fin 1000) : EReal :=
  Ideal.div (Ideal.exp (l j - top l)) (∑ k, Ideal.exp (l k - top l))

/-- The pattern that starts a maximum is the least extended real. -/
theorem ofBits_least : (Ideal.ofBits .f32 0xFF800000#32 : EReal) = ⊥ := by simp [Ideal.ofBits, Ideal.ieee]

/-- The entry of a table at the row a word names, and a column. The remainder only makes the row exist: the words are in range. -/
def pick {n k : ℕ} (hn : 0 < n) (tab : (⟨2, ![n, k]⟩ : Shape).Idx → EReal) (w : BitVec 32) (e : Fin k) : EReal :=
  tab (ix2 ⟨w.toNat % n, Nat.mod_lt _ hn⟩ e)

/-- The logits of a batch row: its activity rows and its trace row against their parts of the weights, and the bias. -/
def logit (tr : (⟨2, ![16384, 1]⟩ : Shape).Idx → BitVec 32) (act : (⟨2, ![16384, 20]⟩ : Shape).Idx → BitVec 32)
    (ta : (⟨2, ![1000, 128]⟩ : Shape).Idx → EReal) (tt : (⟨2, ![100000, 128]⟩ : Shape).Idx → EReal)
    (w : (⟨2, ![2688, 1000]⟩ : Shape).Idx → EReal) (b : (⟨1, ![1000]⟩ : Shape).Idx → EReal) (r : Fin 16384) (j : Fin 1000) : EReal :=
  (∑ k : Fin 2560, pick (n := 1000) (by decide) ta (act (ix2 r (⟨k.val / 128, by omega⟩ : Fin 20))) (⟨k.val % 128, by omega⟩ : Fin 128)
      * w (ix2 (⟨k.val, by omega⟩ : Fin 2688) j))
    + (∑ k : Fin 128, pick (n := 100000) (by decide) tt (tr (ix2 r (0 : Fin 1))) k * w (ix2 (⟨2560 + k.val, by omega⟩ : Fin 2688) j))
    + b (ix1 j)

/-- The whole result. -/
def answer (tr : (⟨2, ![16384, 1]⟩ : Shape).Idx → BitVec 32) (act : (⟨2, ![16384, 20]⟩ : Shape).Idx → BitVec 32)
    (ta : (⟨2, ![1000, 128]⟩ : Shape).Idx → EReal) (tt : (⟨2, ![100000, 128]⟩ : Shape).Idx → EReal)
    (w : (⟨2, ![2688, 1000]⟩ : Shape).Idx → EReal) (b : (⟨1, ![1000]⟩ : Shape).Idx → EReal) : (⟨2, ![16384, 1000]⟩ : Shape).Idx → EReal :=
  fun i => soft (logit tr act ta tt w b (i 0)) (i 1)

end Cert.Soft

end
-- ==== Proof.Soft.lean ====
/-
  The TensorCore kernel's stored value over the extended reals, read at an index: the softmax of the row of logits that its five
  operands give.
-/
module

public import proofs.«01_k».proof.Proof.Spec
public import proofs.«01_k».proof.Proof.TcKI
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

open scoped BigOperators

namespace Cert.KernelIdeal.Sc

open Cert.KernelIdeal Cert.KernelIdeal.Gen Cert.Soft
open Idealize.ShloMosaic Idealize.ShloMosaic.ValueIdx

/-- Each row's maximum, on every column of the row. -/
def rowTop (x : FVec Ideal S512x1000 .f32) : FVec Ideal S512x1000 .f32 :=
  broadcastTo S512x1000 (shapeCast S512x1 (multiReduction .maximumf [1] S512 x 0xFF800000#32 reduces_S512x1000_S512 (.inl rfl) rfl)
    shapeCasts_S512_S512x1) broadcasts_S512x1_S512x1000

/-- Each row's sum, on every column of the row. -/
def rowSum (x : FVec Ideal S512x1000 .f32) : FVec Ideal S512x1000 .f32 :=
  broadcastTo S512x1000 (shapeCast S512x1 (multiReduction .add [1] S512 x 0x00000000#32 reduces_S512x1000_S512 (.inl rfl) rfl)
    shapeCasts_S512_S512x1) broadcasts_S512x1_S512x1000

/-- The logits of a block: two matrix products and the bias. -/
def logits (a : Vec Ideal S512x2560 .f32) (t : Vec Ideal S512x128 .f32) (wa : Vec Ideal S2560x1000 .bf16)
    (wt : Vec Ideal S128x1000 .bf16) (b : Vec Ideal S1x1000 .f32) : FVec Ideal S512x1000 .f32 :=
  addf (addf
      (matmul dot_S512x2560_S2560x1000_S512x1000_1_0_0_1_n_n none
        (truncf .bf16 (shapeCast S512x2560 a shapeCasts_S512x2560_S512x2560) bitsLt_bf16_f32)
        (shapeCast S2560x1000 wa shapeCasts_S2560x1000_S2560x1000 : FVec Ideal S2560x1000 .bf16) (constant S512x1000 .f32 0x00000000#32))
      (matmul dot_S512x128_S128x1000_S512x1000_1_0_0_1_n_n none
        (truncf .bf16 (shapeCast S512x128 t shapeCasts_S512x128_S512x128) bitsLt_bf16_f32)
        (shapeCast S128x1000 wt shapeCasts_S128x1000_S128x1000 : FVec Ideal S128x1000 .bf16) (constant S512x1000 .f32 0x00000000#32)))
    (broadcastTo S512x1000 (shapeCast S1x1000 b shapeCasts_S1x1000_S1x1000 : FVec Ideal S1x1000 .f32) broadcasts_S1x1000_S512x1000)

/-- The stored value is the softmax's terms over the logits. -/
theorem pay_eq (a : Vec Ideal S512x2560 .f32) (t : Vec Ideal S512x128 .f32) (wa : Vec Ideal S2560x1000 .bf16)
    (wt : Vec Ideal S128x1000 .bf16) (b : Vec Ideal S1x1000 .f32) :
    k1_pay1 a t wa wt b = divf (exp (subf (logits a t wa wt b) (rowTop (logits a t wa wt b))))
      (rowSum (exp (subf (logits a t wa wt b) (rowTop (logits a t wa wt b))))) := rfl

/-- One column spread over a row's columns is the column's entry of that row. -/
theorem spread_apply {α : Type} (v : S512.Idx → α) (p : Fin 512) (j : Fin 1000) :
    broadcastTo S512x1000 (shapeCast S512x1 v shapeCasts_S512_S512x1) broadcasts_S512x1_S512x1000 (ix2 p j) = v (ix1 p) := by
  rw [broadcastTo_apply _ _ (ix2 p j) (ix2 p (0 : Fin 1))]
  · exact shapeCast_a_a1_apply v _ p 0
  · intro a
    match a with
    | ⟨0, _⟩ => rfl
    | ⟨1, _⟩ => rfl

/-- A reduction's source index: row `p`, the reduced column `k`. -/
theorem lift_row (p : Fin 512) (k : Fin 1000) : reduces_S512x1000_S512.lift (ix1 p) k = ix2 p k := by
  funext a
  match a with
  | ⟨0, _⟩ => rfl
  | ⟨1, _⟩ => rfl

/-- The greatest entry of each row, spread over the row's places. -/
theorem rowTop_apply (x : FVec Ideal S512x1000 .f32) (p : Fin 512) (j : Fin 1000) :
    rowTop x (ix2 p j) = top fun k => x (ix2 p k) := by
  refine (spread_apply _ p j).trans ?_
  refine (Ideal.multiReduction_maximumf_single x 0xFF800000#32 reduces_S512x1000_S512 (.inl rfl) rfl (ix1 p)).trans ?_
  unfold top
  rw [show (FloatOps.ofBits .f32 0xFF800000#32 : Ideal .f32) = (⊥ : EReal) from ofBits_least]
  exact congrArg (Finset.fold max ⊥ · Finset.univ) (funext fun k => congrArg x (lift_row p k))

/-- The sum of each row, spread over the row's places. -/
theorem rowSum_apply (x : FVec Ideal S512x1000 .f32) (p : Fin 512) (j : Fin 1000) :
    rowSum x (ix2 p j) = (∑ k : Fin 1000, x (ix2 p k) : EReal) := by
  refine (spread_apply _ p j).trans ?_
  refine (Ideal.multiReduction_add_single x _ reduces_S512x1000_S512 (.inl rfl) rfl (ix1 p)).trans ?_
  exact Finset.sum_congr rfl fun k _ => congrArg x (lift_row p k)

/-- A logit of the block: the two products and the bias added up. -/
theorem logits_apply (a : Vec Ideal S512x2560 .f32) (t : Vec Ideal S512x128 .f32) (wa : Vec Ideal S2560x1000 .bf16)
    (wt : Vec Ideal S128x1000 .bf16) (b : Vec Ideal S1x1000 .f32) (p : Fin 512) (j : Fin 1000) :
    logits a t wa wt b (ix2 p j)
      = ((∑ k : Fin 2560, a (ix2 p k) * wa (ix2 k j)) + (∑ k : Fin 128, t (ix2 p k) * wt (ix2 k j)) + b (ix2 (0 : Fin 1) j) : EReal) := by
  have h0 : (constant S512x1000 .f32 0x00000000#32 : FVec Ideal S512x1000 .f32) (ix2 p j) = (0 : EReal) := Ideal.ofBits_zero_f32
  have e1 := Ideal.matmul_plain_apply (M := 512) (K := 2560) (N := 1000) none
    (truncf .bf16 (shapeCast S512x2560 a shapeCasts_S512x2560_S512x2560) bitsLt_bf16_f32 : FVec Ideal S512x2560 .bf16)
    (shapeCast S2560x1000 wa shapeCasts_S2560x1000_S2560x1000 : FVec Ideal S2560x1000 .bf16) (constant S512x1000 .f32 0x00000000#32) p j
  have e2 := Ideal.matmul_plain_apply (M := 512) (K := 128) (N := 1000) none
    (truncf .bf16 (shapeCast S512x128 t shapeCasts_S512x128_S512x128) bitsLt_bf16_f32 : FVec Ideal S512x128 .bf16)
    (shapeCast S128x1000 wt shapeCasts_S128x1000_S128x1000 : FVec Ideal S128x1000 .bf16) (constant S512x1000 .f32 0x00000000#32) p j
  have e3 := broadcastTo_1b_ab_apply (shapeCast S1x1000 b shapeCasts_S1x1000_S1x1000) broadcasts_S1x1000_S512x1000 p j
  rw [h0, zero_add] at e1 e2
  simp only [shapeCast_self] at e1 e2 e3
  unfold logits
  rw [addf_apply, addf_apply]
  simp only [shapeCast_self]
  exact congrArg₂ (· + ·) (congrArg₂ (· + ·) e1 e2) e3

/-- The stored value at row `p`, column `j` of a block: the softmax of the row's logits at `j`. -/
theorem pay_apply (a : Vec Ideal S512x2560 .f32) (t : Vec Ideal S512x128 .f32) (wa : Vec Ideal S2560x1000 .bf16)
    (wt : Vec Ideal S128x1000 .bf16) (b : Vec Ideal S1x1000 .f32) (p : Fin 512) (j : Fin 1000) :
    k1_pay1 a t wa wt b (ix2 p j)
      = soft (fun j => (∑ k : Fin 2560, a (ix2 p k) * wa (ix2 k j)) + (∑ k : Fin 128, t (ix2 p k) * wt (ix2 k j))
          + b (ix2 (0 : Fin 1) j)) j := by
  rw [pay_eq]
  unfold soft
  have hx : ∀ k : Fin 1000, exp (subf (logits a t wa wt b) (rowTop (logits a t wa wt b))) (ix2 p k)
      = Ideal.exp (logits a t wa wt b (ix2 p k) - top fun k => logits a t wa wt b (ix2 p k)) := fun k => by
    rw [← rowTop_apply _ p k]; rfl
  refine (divf_apply _ _ _).trans ?_
  rw [rowSum_apply, hx]
  simp only [hx, logits_apply]

/-- The block of probabilities is the stored value of the blocks themselves: each load and the store are of a whole block. -/
theorem probs_eq (a : Vec Ideal S512x2560 .f32) (t : Vec Ideal S512x128 .f32) (wa : Vec Ideal S2560x1000 .bf16)
    (wt : Vec Ideal S128x1000 .bf16) (b : Vec Ideal S1x1000 .f32) : probs a t wa wt b = k1_pay1 a t wa wt b := by
  have z : (![0, 0] : Fin 2 → ℕ) = fun _ => 0 := by decide
  unfold probs
  rw [View.canon_unit_zero z, View.ld_unit_zero z, View.ld_unit_zero z, View.ld_unit_zero z, View.ld_unit_zero z, View.ld_unit_zero z]

end Cert.KernelIdeal.Sc

end
-- ==== Proof.Blk.lean ====
/-
  The kernel's result over the extended reals: each block of the output is the stored value of the blocks at the same grid point, each
  block a part of an array the program filled, so the result array is the specification's of the arguments.
-/
module

public import proofs.«01_k».proof.Proof.Soft
public import proofs.«01_k».proof.Proof.FrameKI
public import Idealize.ShloMosaic.Lib.Pipeline.ValueKit

@[expose] public section

noncomputable section

open scoped BigOperators

namespace Cert.KernelIdeal.Sc

open Cert.KernelIdeal Cert.KernelIdeal.Gen Cert.Soft
open Idealize.ShloMosaic hiding ix1 ix2 ix3
open Idealize.ShloMosaic.TcCoe Idealize.ShloMosaic.ValueIdx
open Idealize.SL Idealize.SL.RA

/-! ## Blocks of the arrays -/

/-- At step `t` the first input window stands at block row `t`. -/
theorem at0 : ∀ t : Fin grid1.N, win1_0.index t = ![t.val, 0] := by decide +kernel
/-- At step `t` the second input window stands at block row `t`. -/
theorem at1 : ∀ t : Fin grid1.N, win1_1.index t = ![t.val, 0] := by decide +kernel
/-- The window on the activity weights stays where it is. -/
theorem at2 : ∀ t : Fin grid1.N, win1_2.index t = ![0, 0] := by decide +kernel
/-- The window on the trace weights stays where it is. -/
theorem at3 : ∀ t : Fin grid1.N, win1_3.index t = ![0, 0] := by decide +kernel
/-- The window on the bias stays where it is. -/
theorem at4 : ∀ t : Fin grid1.N, win1_4.index t = ![0, 0] := by decide +kernel
/-- At step `t` the result window stands at block row `t`. -/
theorem at5 : ∀ t : Fin grid1.N, win1_5.index t = ![t.val, 0] := by decide +kernel

variable (Wv : Dev nD → Valuation τ sig (Elt Ideal)) (c : Dev nD) (t : Fin cfg1.N)

/-- The output's block `t` holds rows `512 t` to `512 t + 511`. -/
theorem out_apply (p : Fin 512) (j : Fin 1000) (r : Fin 16384) (hr : r.val = t.val * 512 + p.val) :
    (Wout Wv c (Proc.devRef .tc main_v9) : S16384x1000.Idx → EReal) (ix2 r j)
      = k1_pay1 (F := Ideal) (blockAt Wv c 0 t) (blockAt Wv c 1 t) (blockAt Wv c 2 t) (blockAt Wv c 3 t) (blockAt Wv c 4 t) (ix2 p j) := by
  have h := congrFun (out_block Wv c t) (ix2 p j)
  rw [probs_eq] at h
  refine Eq.trans (congrArg (Wout Wv c (Proc.devRef .tc main_v9) : S16384x1000.Idx → EReal) ?_) h
  funext a
  apply Fin.ext
  match a with
  | ⟨0, _⟩ => blk_simp [at5]; exact hr
  | ⟨1, _⟩ => blk_simp [at5]

/-- The activity rows' block `t` holds rows `512 t` to `512 t + 511`. -/
theorem blk0 (p : Fin 512) (k : Fin 2560) (r : Fin 16384) (hr : r.val = t.val * 512 + p.val) :
    (blockAt Wv c 0 t : S512x2560.Idx → EReal) (ix2 p k) = (Wv c (Proc.devRef .tc main_v3) : S16384x2560.Idx → EReal) (ix2 r k) := by
  refine congrArg (Wv c (Proc.devRef .tc main_v3) : S16384x2560.Idx → EReal) (?_ : ((cfg1.win 0).blk t).view.emb (ix2 p k) = ix2 r k)
  funext a
  apply Fin.ext
  match a with
  | ⟨0, _⟩ => blk_simp [at0]; exact hr.symm
  | ⟨1, _⟩ => blk_simp [at0]

/-- The trace rows' block `t` likewise. -/
theorem blk1 (p : Fin 512) (k : Fin 128) (r : Fin 16384) (hr : r.val = t.val * 512 + p.val) :
    (blockAt Wv c 1 t : S512x128.Idx → EReal) (ix2 p k) = (Wv c (Proc.devRef .tc main_v2_1) : S16384x128.Idx → EReal) (ix2 r k) := by
  refine congrArg (Wv c (Proc.devRef .tc main_v2_1) : S16384x128.Idx → EReal) (?_ : ((cfg1.win 1).blk t).view.emb (ix2 p k) = ix2 r k)
  funext a
  apply Fin.ext
  match a with
  | ⟨0, _⟩ => blk_simp [at1]; exact hr.symm
  | ⟨1, _⟩ => blk_simp [at1]

/-- The two parts of the weights and the bias are read whole at every point. -/
theorem blk2 (k : Fin 2560) (j : Fin 1000) :
    (blockAt Wv c 2 t : S2560x1000.Idx → EReal) (ix2 k j) = (Wv c (Proc.devRef .tc main_v5) : S2560x1000.Idx → EReal) (ix2 k j) := by
  refine congrArg (Wv c (Proc.devRef .tc main_v5) : S2560x1000.Idx → EReal) (?_ : ((cfg1.win 2).blk t).view.emb (ix2 k j) = ix2 k j)
  funext a
  apply Fin.ext
  match a with
  | ⟨0, _⟩ => blk_simp [at2]
  | ⟨1, _⟩ => blk_simp [at2]

/-- The block of the trace weights is the whole array. -/
theorem blk3 (k : Fin 128) (j : Fin 1000) :
    (blockAt Wv c 3 t : S128x1000.Idx → EReal) (ix2 k j) = (Wv c (Proc.devRef .tc main_v7) : S128x1000.Idx → EReal) (ix2 k j) := by
  refine congrArg (Wv c (Proc.devRef .tc main_v7) : S128x1000.Idx → EReal) (?_ : ((cfg1.win 3).blk t).view.emb (ix2 k j) = ix2 k j)
  funext a
  apply Fin.ext
  match a with
  | ⟨0, _⟩ => blk_simp [at3]
  | ⟨1, _⟩ => blk_simp [at3]

/-- The block of the bias is the whole row. -/
theorem blk4 (u : Fin 1) (j : Fin 1000) :
    (blockAt Wv c 4 t : S1x1000.Idx → EReal) (ix2 u j) = (Wv c (Proc.devRef .tc main_v8) : S1x1000.Idx → EReal) (ix2 u j) := by
  refine congrArg (Wv c (Proc.devRef .tc main_v8) : S1x1000.Idx → EReal) (?_ : ((cfg1.win 4).blk t).view.emb (ix2 u j) = ix2 u j)
  funext a
  apply Fin.ext
  match a with
  | ⟨0, _⟩ => blk_simp [at4]
  | ⟨1, _⟩ => blk_simp [at4]

/-! ## The arrays at the TensorCore call -/

variable (m : (ℓ : Loc nD τ sig) → Buf (Elt Ideal) ℓ) (d : Dev nD)

/-- What the TensorCore call finds as its first input: the gathered activity rows, laid out anew. -/
theorem W3_v3 : W3 m d (Proc.devRef .tc main_v3)
    = shapeCast S16384x2560 (W2 m d (Proc.devRef .tc main_v2_0)) shapeCasts_S327680x128_S16384x2560 := by
  unfold W3 opsBetween
  after_results_simp <;> rfl

/-- What the TensorCore call finds as its second input: the gathered trace rows. -/
theorem W3_v21 : W3 m d (Proc.devRef .tc main_v2_1) = W2 m d (Proc.devRef .tc main_v2_1) :=
  StableHlo.after_of_writes_sub (W := [main_v3, main_v4, main_v5, main_v6, main_v7, main_v8]) opsBetween (W2 m d)
    (StableHlo.forall_writes_sub_of_map rfl) (by decide)

/-- The arguments are still what they were after the SparseCore call. -/
theorem W2_arg (r : Ref sig .tc) (h : r ∉ [main_v0, main_v1, main_v2_0, main_v2_1]) :
    W2 m d (Proc.devRef .tc r) = m ((d.tc : Thread nD τ).loc r) := by
  rw [W2_kept m d r fun e => h (by simp only [List.mem_cons] at e ⊢; tauto), W1_kept m d r fun e => h (by simp only [List.mem_cons] at e ⊢; tauto)]

/-- The activity weights the TensorCore call finds, entry by entry. -/
theorem W3_v5 (k : Fin 2560) (j : Fin 1000) : (W3 m d (Proc.devRef .tc main_v5) : S2560x1000.Idx → EReal) (ix2 k j)
    = (m ((d.tc : Thread nD τ).loc main_arg4) : S2688x1000.Idx → EReal) (ix2 (⟨k.val, by omega⟩ : Fin 2688) j) := by
  have h : W3 m d (Proc.devRef .tc main_v5) = (truncf .bf16 (extractStridedSlice S2560x1000 ![0, 0]
      (W2 m d (Proc.devRef .tc main_arg4)) slices_S2688x1000_S2560x1000_0_0 : FVec Ideal S2560x1000 .f32) bitsLt_bf16_f32 : FVec Ideal S2560x1000 .bf16) := by
    unfold W3 opsBetween
    after_results_simp <;> rfl
  rw [h, W2_arg m d main_arg4 (by decide)]
  refine extractStridedSlice_apply (s := S2688x1000) (t := S2560x1000) (α := EReal) _ _ slices_S2688x1000_S2560x1000_0_0 (ix2 k j) _ fun a => ?_
  match a with
  | ⟨0, _⟩ => exact (Nat.zero_add _).symm
  | ⟨1, _⟩ => exact (Nat.zero_add _).symm

/-- The trace weights the TensorCore call finds, entry by entry. -/
theorem W3_v7 (k : Fin 128) (j : Fin 1000) : (W3 m d (Proc.devRef .tc main_v7) : S128x1000.Idx → EReal) (ix2 k j)
    = (m ((d.tc : Thread nD τ).loc main_arg4) : S2688x1000.Idx → EReal) (ix2 (⟨2560 + k.val, by omega⟩ : Fin 2688) j) := by
  have h : W3 m d (Proc.devRef .tc main_v7) = (truncf .bf16 (extractStridedSlice S128x1000 ![2560, 0]
      (W2 m d (Proc.devRef .tc main_arg4)) slices_S2688x1000_S128x1000_2560_0 : FVec Ideal S128x1000 .f32) bitsLt_bf16_f32 : FVec Ideal S128x1000 .bf16) := by
    unfold W3 opsBetween
    after_results_simp <;> rfl
  rw [h, W2_arg m d main_arg4 (by decide)]
  refine extractStridedSlice_apply (s := S2688x1000) (t := S128x1000) (α := EReal) _ _ slices_S2688x1000_S128x1000_2560_0 (ix2 k j) _ fun a => ?_
  match a with
  | ⟨0, _⟩ => rfl
  | ⟨1, _⟩ => exact (Nat.zero_add _).symm

/-- The bias the TensorCore call finds, entry by entry. -/
theorem W3_v8 (j : Fin 1000) : (W3 m d (Proc.devRef .tc main_v8) : S1x1000.Idx → EReal) (ix2 (0 : Fin 1) j)
    = (m ((d.tc : Thread nD τ).loc main_arg5) : S1000.Idx → EReal) (ix1 j) := by
  have h : W3 m d (Proc.devRef .tc main_v8) = shapeCast S1x1000 (W2 m d (Proc.devRef .tc main_arg5)) shapeCasts_S1000_S1x1000 := by
    unfold W3 opsBetween
    after_results_simp <;> rfl
  rw [h, W2_arg m d main_arg5 (by decide)]
  refine shapeCast_apply _ _ (ix2 (0 : Fin 1) j) (ix1 j) ?_
  rw [Shape.rowMajor_val_two, Shape.rowMajor_val_one]
  show j.val = 0 * 1000 + j.val
  omega

/-- Row `r`, column `k` of the activity rows laid end to end: the table's row for the `k / 128`-th activity of batch row `r`. -/
theorem rows_act (r : Fin 16384) (k : Fin 2560) : (W3 m d (Proc.devRef .tc main_v3) : S16384x2560.Idx → EReal) (ix2 r k)
    = pick (n := 1000) (k := 128) (by decide) (m ((d.tc : Thread nD τ).loc main_arg2))
        ((m ((d.tc : Thread nD τ).loc main_arg1) : S16384x20.Idx → BitVec 32) (ix2 r (⟨k.val / 128, by omega⟩ : Fin 20))) (⟨k.val % 128, by omega⟩ : Fin 128) := by
  rw [W3_v3, W2_outA]
  have hq : r.val * 20 + k.val / 128 < 327680 := by omega
  refine (shapeCast_apply _ _ (ix2 r k) (ix2 (⟨r.val * 20 + k.val / 128, hq⟩ : Fin 327680) (⟨k.val % 128, by omega⟩ : Fin 128)) ?_).trans ?_
  · rw [Shape.rowMajor_val_two, Shape.rowMajor_val_two]
    show (r.val * 20 + k.val / 128) * 128 + k.val % 128 = r.val * 2560 + k.val
    omega
  · have hx : xA m d (ix1 (⟨r.val * 20 + k.val / 128, hq⟩ : Fin 327680))
        = (m ((d.tc : Thread nD τ).loc main_arg1) : S16384x20.Idx → BitVec 32) (ix2 r (⟨k.val / 128, by omega⟩ : Fin 20)) := by
      rw [xA_eq]
      refine shapeCast_apply (s := S16384x20) (t := S327680) _ _ _ _ ?_
      rw [Shape.rowMajor_val_two, Shape.rowMajor_val_one]
      rfl
    rw [← hx]
    rfl

/-- Row `r` of the trace rows: the table's row for the trace of batch row `r`. -/
theorem rows_tr (r : Fin 16384) (k : Fin 128) : (W3 m d (Proc.devRef .tc main_v2_1) : S16384x128.Idx → EReal) (ix2 r k)
    = pick (n := 100000) (k := 128) (by decide) (m ((d.tc : Thread nD τ).loc main_arg3))
        ((m ((d.tc : Thread nD τ).loc main_arg0) : S16384x1.Idx → BitVec 32) (ix2 r (0 : Fin 1))) k := by
  rw [W3_v21, W2_outT]
  have hx : xT m d (ix1 r) = (m ((d.tc : Thread nD τ).loc main_arg0) : S16384x1.Idx → BitVec 32) (ix2 r (0 : Fin 1)) := by
    rw [xT_eq]
    refine shapeCast_apply (s := S16384x1) (t := S16384) _ _ _ _ ?_
    rw [Shape.rowMajor_val_two, Shape.rowMajor_val_one]
    show r.val * 1 + 0 = r.val
    omega
  rw [← hx]
  rfl

/-- The TensorCore call's grid has one point for each block of 512 rows. -/
theorem points : grid1.N = 32 := by decide

/-- Row `512 t + p`, column `j` of the result: the softmax of the row's logits. -/
theorem result_apply (p : Fin 512) (r : Fin 16384) (hr : r.val = t.val * 512 + p.val) (j : Fin 1000) :
    (W4 m d (Proc.devRef .tc main_v9) : S16384x1000.Idx → EReal) (ix2 r j)
      = soft (logit (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg4)) (m ((d.tc : Thread nD τ).loc main_arg5)) r) j := by
  refine (out_apply (W3 m) d t p j r hr).trans ((pay_apply _ _ _ _ _ p j).trans ?_)
  refine congrArg (soft · j) (funext fun j' => ?_)
  refine congrArg₂ (· + ·) (congrArg₂ (· + ·) (Finset.sum_congr rfl fun k _ => ?_) (Finset.sum_congr rfl fun k _ => ?_)) ?_
  · exact congrArg₂ (· * ·) ((blk0 (W3 m) d t p k r hr).trans (rows_act m d r k)) ((blk2 (W3 m) d t k j').trans (W3_v5 m d k j'))
  · exact congrArg₂ (· * ·) ((blk1 (W3 m) d t p k r hr).trans (rows_tr m d r k)) ((blk3 (W3 m) d t k j').trans (W3_v7 m d k j'))
  · exact (blk4 (W3 m) d t 0 j').trans (W3_v8 m d j')

/-- The result array is the specification's of the arguments. -/
theorem result_eq : (W4 m d (Proc.devRef .tc main_v9) : S16384x1000.Idx → EReal)
    = answer (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg4)) (m ((d.tc : Thread nD τ).loc main_arg5)) := by
  funext i
  obtain ⟨r, j, rfl⟩ : ∃ (r : Fin 16384) (j : Fin 1000), i = ix2 r j := ⟨i 0, i 1, ValueIdx.eq_ix2 i⟩
  have ht : r.val / 512 < grid1.N := by rw [points]; omega
  exact result_apply ⟨r.val / 512, ht⟩ m d ⟨r.val % 512, Nat.mod_lt _ (by decide)⟩ r (Nat.div_add_mod' r.val 512).symm j

end Cert.KernelIdeal.Sc

end
-- ==== Proof.RefVal.lean ====
/-
  The reference's result over the extended reals. A row number in range passes the reference's mask and is not moved by its wrap or by
  the lookup's clamp, so a lookup reads the table's row; the rows laid end to end, times the weights, plus the bias, under the softmax,
  are the specification's.
-/
module

public import proofs.«01_k».proof.Proof.Spec
public import proofs.«01_k».proof.Proof.Range
public import proofs.«01_k».proof.Proof.RefRun
public import Idealize.ShloMosaic.Lib.IdealHost
public import Idealize.ShloMosaic.Lib.MatmulPlain
public import Idealize.ShloMosaic.Lib.StackMember
public import Idealize.ShloMosaic.Lib.StableHlo.Predicate

@[expose] public section

noncomputable section

open scoped BigOperators

namespace Cert.ReferenceIdeal.Value

open Cert.ReferenceIdeal Cert.ReferenceIdeal.Gen Cert.Soft
open Idealize.ShloMosaic
open Idealize.ShloMosaic.TcCoe Idealize.ShloMosaic.ValueIdx Idealize.SL.Sem

/-! ## A lookup of rows -/

section Lookup

variable {n B : ℕ}

/-- The lookup's dimensions: each index names one whole row of 128 entries. -/
abbrev rowDims (n B : ℕ) (wf : GatherDims.WF ⟨2, ![n, 128]⟩ ⟨3, ![16384, B, 1]⟩ ⟨3, ![16384, B, 128]⟩ [2] [0] [] [0] [] 2 ![1, 128]) :
    GatherDims ⟨2, ![n, 128]⟩ ⟨3, ![16384, B, 1]⟩ ⟨3, ![16384, B, 128]⟩ where
  offsetDims := [2]
  collapsedSliceDims := [0]
  operandBatchingDims := []
  startIndicesBatchingDims := []
  startIndexMap := [0]
  indexVectorDim := 2
  sliceSizes := ![1, 128]
  wf := wf

/-- A lookup reads the row its index names, as a signed word held within the table, at the result's last coordinate. -/
theorem lookup_apply (hn : 0 < n)
    (wf : GatherDims.WF ⟨2, ![n, 128]⟩ ⟨3, ![16384, B, 1]⟩ ⟨3, ![16384, B, 128]⟩ [2] [0] [] [0] [] 2 ![1, 128])
    (tab : (⟨2, ![n, 128]⟩ : Shape).Idx → EReal) (idx : IVec ⟨3, ![16384, B, 1]⟩ 32) (r : Fin 16384) (q : Fin B) (e : Fin 128) :
    Host.gather (rowDims n B wf) tab idx (ix3 r q e)
      = tab (ix2 (⟨min (idx (ix3 r q (0 : Fin 1))).toInt.toNat (n - 1), by omega⟩ : Fin n) e) := by
  unfold Host.gather
  congr 1
  funext a
  refine Fin.ext ?_
  show (rowDims n B wf).start (ix3 r q e) idx a + (rowDims n B wf).batchCoord (ix3 r q e) a
    + (rowDims n B wf).offCoord (ix3 r q e) a = _
  rw [GatherDims.batchCoord_eq_zero _ _ _ (fun h => by simp at h), Nat.add_zero]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims n B wf).startIndexMap from List.mem_singleton.mpr rfl)]
    have hs : (rowDims n B wf).siIdx (ix3 r q e) ⟨List.idxOf (0 : Fin 2) (rowDims n B wf).startIndexMap,
        List.idxOf_lt_length_iff.2 (List.mem_singleton.mpr rfl)⟩ = ix3 r q (0 : Fin 1) := by
      funext b
      refine Fin.ext ?_
      match b with
      | ⟨0, _⟩ => rfl
      | ⟨1, _⟩ => rfl
      | ⟨2, _⟩ => rfl
    rw [hs]
    rfl
  · unfold GatherDims.start
    rw [dif_neg (show ¬ (1 : Fin 2) ∈ (rowDims n B wf).startIndexMap from by simp), Nat.zero_add]
    rfl

/-- A row number that is not negative is not wrapped. -/
theorem wrap_eq (x y : IVec ⟨2, ![16384, B]⟩ 32) (h0 : S_.BroadcastsInDim ⟨2, ![16384, B]⟩ ![])
    (hx : ∀ i, (x i).toNat < 2 ^ 31) :
    select (cmpi .slt x (broadcastInDim ⟨2, ![16384, B]⟩ ![] h0 (constantI S_ 32 0#32))) y x = x := by
  funext i
  have hc : cmpi .slt x (broadcastInDim ⟨2, ![16384, B]⟩ ![] h0 (constantI S_ 32 0#32)) i = 0#1 := by
    refine (BitVec.eq_zero_or_eq_one _).resolve_right fun h => ?_
    exact absurd ((StableHlo.Predicate.slt_iff_toNat (hx i) (show (0#32 : BitVec 32).toNat < 2 ^ 31 by decide)).1 h) (Nat.not_lt_zero _)
  rw [select_apply, hc, select_zero]

/-- The mask of row numbers in range is one everywhere when they all are. -/
theorem mask_one (x : IVec ⟨3, ![16384, B, 1]⟩ 32) (lo hi : IVec ⟨3, ![16384, B, 1]⟩ 32)
    (h : Shape.ReducesTo ⟨3, ![16384, B, 1]⟩ [2] ⟨2, ![16384, B]⟩) (hlo : ∀ i, lo i = 0#32) (hhi : ∀ i, (hi i).toNat < 2 ^ 31)
    (hx : ∀ i, (x i).toNat ≤ (hi i).toNat) (j : (⟨2, ![16384, B]⟩ : Shape).Idx) :
    Host.reduce IntOp.andi (andi (cmpi .sge x lo) (cmpi .sle x hi)) (constantI S_ 1 1#1) h h_S_ j = 1#1 := by
  refine (Range.all_iff _ _ h h_S_ j).2 ⟨rfl, fun i _ => (Range.andi_one _ _).2 ⟨?_, ?_⟩⟩
  · show IntOp.cmpi .sge (x i) (lo i) = 1#1
    rw [hlo i]
    exact (StableHlo.Predicate.sge_iff_toNat ((hx i).trans_lt (hhi i)) (by decide)).2 (Nat.zero_le _)
  · exact (StableHlo.Predicate.sle_iff_toNat ((hx i).trans_lt (hhi i)) (hhi i)).2 (hx i)

/-- A masked lookup of row numbers in range reads the table's rows. -/
theorem take_apply (hn : 0 < n) (hn' : n < 2 ^ 31)
    (wf : GatherDims.WF ⟨2, ![n, 128]⟩ ⟨3, ![16384, B, 1]⟩ ⟨3, ![16384, B, 128]⟩ [2] [0] [] [0] [] 2 ![1, 128])
    (h : Shape.ReducesTo ⟨3, ![16384, B, 1]⟩ [2] ⟨2, ![16384, B]⟩)
    (hs : Shape.BroadcastsInDim ⟨2, ![16384, B]⟩ ⟨3, ![16384, B, 128]⟩ ![0, 1])
    (hi : Shape.BroadcastsInDim ⟨2, ![16384, B]⟩ ⟨3, ![16384, B, 1]⟩ ![0, 1])
    (x : IVec ⟨2, ![16384, B]⟩ 32) (hx : ∀ i, (x i).toNat < n)
    (lo top : IVec ⟨3, ![16384, B, 1]⟩ 32) (hlo : ∀ i, lo i = 0#32) (htop : ∀ i, (top i).toNat = n - 1)
    (tab : (⟨2, ![n, 128]⟩ : Shape).Idx → EReal) (other : (⟨3, ![16384, B, 128]⟩ : Shape).Idx → EReal)
    (r : Fin 16384) (q : Fin B) (e : Fin 128) :
    select (broadcastInDim ⟨3, ![16384, B, 128]⟩ ![0, 1] hs
        (Host.reduce IntOp.andi (andi (cmpi .sge (broadcastInDim ⟨3, ![16384, B, 1]⟩ ![0, 1] hi x) lo)
          (cmpi .sle (broadcastInDim ⟨3, ![16384, B, 1]⟩ ![0, 1] hi x) top)) (constantI S_ 1 1#1) h h_S_))
      (Host.gather (rowDims n B wf) tab (broadcastInDim ⟨3, ![16384, B, 1]⟩ ![0, 1] hi x)) other (ix3 r q e)
      = pick hn tab (x (ix2 r q)) e := by
  have hm : broadcastInDim ⟨3, ![16384, B, 128]⟩ ![0, 1] hs
        (Host.reduce IntOp.andi (andi (cmpi .sge (broadcastInDim ⟨3, ![16384, B, 1]⟩ ![0, 1] hi x) lo)
          (cmpi .sle (broadcastInDim ⟨3, ![16384, B, 1]⟩ ![0, 1] hi x) top)) (constantI S_ 1 1#1) h h_S_) (ix3 r q e) = 1#1 := by
    unfold broadcastInDim
    refine mask_one _ lo top h hlo (fun i => by rw [htop]; omega) (fun i => ?_) _
    rw [htop]
    exact Nat.le_sub_one_of_lt (hx _)
  have hb : broadcastInDim ⟨3, ![16384, B, 1]⟩ ![0, 1] hi x (ix3 r q (0 : Fin 1)) = x (ix2 r q) := by
    refine broadcastInDim_apply ![0, 1] hi x _ (ix2 r q) fun a => ?_
    match a with
    | ⟨0, _⟩ => rfl
    | ⟨1, _⟩ =>
      show q.val = if B = 1 then 0 else q.val
      split <;> omega
  rw [select_apply, hm, select_one, lookup_apply hn]
  unfold pick
  have h1 := hx (ix2 r q)
  refine congrArg tab (congrArg (ix2 · e) (Fin.ext ?_))
  show min (broadcastInDim ⟨3, ![16384, B, 1]⟩ ![0, 1] hi x (ix3 r q (0 : Fin 1))).toInt.toNat (n - 1) = (x (ix2 r q)).toNat % n
  rw [hb]
  show min (x (ix2 r q)).toInt.toNat (n - 1) = (x (ix2 r q)).toNat % n
  rw [StableHlo.Predicate.toInt_eq_toNat_of_lt (h1.trans hn'), Int.toNat_natCast, Nat.mod_eq_of_lt h1]
  omega

end Lookup

/-! ## The reference's terms -/

/-- The activity rows the reference looks up. -/
def takeA (x : IVec S16384x20 32) (tab : FVec Ideal S1000x128 .f32) : FVec Ideal S16384x20x128 .f32 :=
  select (broadcastInDim S16384x20x128 ![0, 1] bcast_S16384x20_S16384x20x128_0_1
      (Host.reduce IntOp.andi (andi
        (cmpi .sge (broadcastInDim S16384x20x1 ![0, 1] bcast_S16384x20_S16384x20x1_0_1 x)
          (broadcastInDim S16384x20x1 ![] bcast_S_S16384x20x1 (constantI S_ 32 0#32)))
        (cmpi .sle (broadcastInDim S16384x20x1 ![0, 1] bcast_S16384x20_S16384x20x1_0_1 x)
          (broadcastInDim S16384x20x1 ![0, 1, 2] bcast_S1x1x1_S16384x20x1_0_1_2
            (broadcastInDim S1x1x1 ![2] bcast_S1_S1x1x1_2 (constantI S1 32 999#32)))))
        (constantI S_ 1 1#1) reducesTo_S16384x20x1_S16384x20_d2 h_S_))
    (Host.gather gather_S1000x128_S16384x20x1_S16384x20x128_2_0_n_n_0_2_1128 tab
      (broadcastInDim S16384x20x1 ![0, 1] bcast_S16384x20_S16384x20x1_0_1 x))
    (broadcastInDim S16384x20x128 ![] bcast_S_S16384x20x128 (constant S_ .f32 0x7FC00000#32))

/-- The trace rows it looks up. -/
def takeT (x : IVec S16384x1 32) (tab : FVec Ideal S100000x128 .f32) : FVec Ideal S16384x1x128 .f32 :=
  select (broadcastInDim S16384x1x128 ![0, 1] bcast_S16384x1_S16384x1x128_0_1
      (Host.reduce IntOp.andi (andi
        (cmpi .sge (broadcastInDim S16384x1x1 ![0, 1] bcast_S16384x1_S16384x1x1_0_1 x)
          (broadcastInDim S16384x1x1 ![] bcast_S_S16384x1x1 (constantI S_ 32 0#32)))
        (cmpi .sle (broadcastInDim S16384x1x1 ![0, 1] bcast_S16384x1_S16384x1x1_0_1 x)
          (broadcastInDim S16384x1x1 ![0, 1, 2] bcast_S1x1x1_S16384x1x1_0_1_2
            (broadcastInDim S1x1x1 ![2] bcast_S1_S1x1x1_2 (constantI S1 32 99999#32)))))
        (constantI S_ 1 1#1) reducesTo_S16384x1x1_S16384x1_d2 h_S_))
    (Host.gather gather_S100000x128_S16384x1x1_S16384x1x128_2_0_n_n_0_2_1128 tab
      (broadcastInDim S16384x1x1 ![0, 1] bcast_S16384x1_S16384x1x1_0_1 x))
    (broadcastInDim S16384x1x128 ![] bcast_S_S16384x1x128 (constant S_ .f32 0x7FC00000#32))

/-- The activity numbers, a negative one counted from the table's end. -/
def wrapA (x : IVec S16384x20 32) : IVec S16384x20 32 :=
  select (cmpi .slt x (broadcastInDim S16384x20 ![] bcast_S_S16384x20 (constantI S_ 32 0#32)))
    (addi x (broadcastInDim S16384x20 ![] bcast_S_S16384x20 (constantI S_ 32 1000#32))) x

/-- The trace numbers likewise. -/
def wrapT (x : IVec S16384x1 32) : IVec S16384x1 32 :=
  select (cmpi .slt x (broadcastInDim S16384x1 ![] bcast_S_S16384x1 (constantI S_ 32 0#32)))
    (addi x (broadcastInDim S16384x1 ![] bcast_S_S16384x1 (constantI S_ 32 100000#32))) x

/-- The looked-up rows of a batch row laid end to end, the trace's last. -/
def flat (a : FVec Ideal S16384x20x128 .f32) (t : FVec Ideal S16384x1x128 .f32) : FVec Ideal S16384x2688 .f32 :=
  shapeCast S16384x2688 (concatenate S16384x21x128 1 [⟨S16384x20x128, a⟩, ⟨S16384x1x128, t⟩]
    concatenates_S16384x20x128_S16384x1x128_S16384x21x128_d1) shapeCasts_S16384x21x128_S16384x2688

/-- The logits: one matrix product and the bias. -/
def logits (x : FVec Ideal S16384x2688 .f32) (w : FVec Ideal S2688x1000 .f32) (b : FVec Ideal S1000 .f32) : FVec Ideal S16384x1000 .f32 :=
  addf (Host.dotGeneral dot_S16384x2688_S2688x1000_S16384x1000_1_0_0_1_n_n none x w)
    (broadcastInDim S16384x1000 ![0, 1] bcast_S1x1000_S16384x1000_0_1 (broadcastInDim S1x1000 ![1] bcast_S1000_S1x1000_1 b))

/-- Each row's maximum, on every column of the row. -/
def rowTop (x : FVec Ideal S16384x1000 .f32) : FVec Ideal S16384x1000 .f32 :=
  broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x1000_S16384_d1 h_S_)))

/-- Each row's sum, on every column of the row. -/
def rowSum (x : FVec Ideal S16384x1000 .f32) : FVec Ideal S16384x1000 .f32 :=
  broadcastInDim S16384x1000 ![0, 1] bcast_S16384x1_S16384x1000_0_1 (broadcastInDim S16384x1 ![0] bcast_S16384_S16384x1_0
    (Host.reduceAdd x (constant S_ .f32 0x00000000#32) reducesTo_S16384x1000_S16384_d1 h_S_))

variable (m : (ℓ : Loc nD τ sig) → Buf (Elt Ideal) ℓ) (c : Dev nD)

/-- The reference's logits of its arguments. -/
def argLogits : FVec Ideal S16384x1000 .f32 :=
  logits (flat (takeA (wrapA (m ((c.tc : Thread nD τ).loc main_arg1))) (m ((c.tc : Thread nD τ).loc main_arg2)))
      (takeT (wrapT (m ((c.tc : Thread nD τ).loc main_arg0))) (m ((c.tc : Thread nD τ).loc main_arg3))))
    (m ((c.tc : Thread nD τ).loc main_arg4)) (m ((c.tc : Thread nD τ).loc main_arg5))

set_option maxRecDepth 8192 in
/-- The reference's result is the softmax's terms over its logits. -/
theorem res_eq : res_main_v18 m c = Host.divf (Host.exp (subf (argLogits m c) (rowTop (argLogits m c))))
    (rowSum (Host.exp (subf (argLogits m c) (rowTop (argLogits m c))))) := rfl

/-! ## The terms at an index -/

/-- The activity row the reference looks up for place `q` of batch row `r`. -/
theorem takeA_apply (x : IVec S16384x20 32) (hx : ∀ i, (x i).toNat < 1000) (tab : FVec Ideal S1000x128 .f32)
    (r : Fin 16384) (q : Fin 20) (e : Fin 128) :
    takeA (wrapA x) tab (ix3 r q e) = pick (n := 1000) (by decide) tab (x (ix2 r q)) e := by
  have hw : wrapA x = x := wrap_eq (B := 20) x _ bcast_S_S16384x20 fun i => (hx i).trans (by norm_num)
  rw [hw]
  exact take_apply (n := 1000) (B := 20) (by decide) (by norm_num) _ reducesTo_S16384x20x1_S16384x20_d2 bcast_S16384x20_S16384x20x128_0_1
    bcast_S16384x20_S16384x20x1_0_1 x hx _ _ (fun _ => rfl) (fun _ => rfl) tab _ r q e

/-- The trace row it looks up for batch row `r`. -/
theorem takeT_apply (x : IVec S16384x1 32) (hx : ∀ i, (x i).toNat < 100000) (tab : FVec Ideal S100000x128 .f32)
    (r : Fin 16384) (q : Fin 1) (e : Fin 128) :
    takeT (wrapT x) tab (ix3 r q e) = pick (n := 100000) (by decide) tab (x (ix2 r q)) e := by
  have hw : wrapT x = x := wrap_eq (B := 1) x _ bcast_S_S16384x1 fun i => (hx i).trans (by norm_num)
  rw [hw]
  exact take_apply (n := 100000) (B := 1) (by decide) (by norm_num) _ reducesTo_S16384x1x1_S16384x1_d2 bcast_S16384x1_S16384x1x128_0_1
    bcast_S16384x1_S16384x1x1_0_1 x hx _ _ (fun _ => rfl) (fun _ => rfl) tab _ r q e

/-- The first 2560 columns of a flat row are the activity rows'. -/
theorem flat_act (a : FVec Ideal S16384x20x128 .f32) (t : FVec Ideal S16384x1x128 .f32) (r : Fin 16384) (k : Fin 2560) :
    flat a t (ix2 r (⟨k.val, by omega⟩ : Fin 2688)) = a (ix3 r (⟨k.val / 128, by omega⟩ : Fin 20) (⟨k.val % 128, by omega⟩ : Fin 128)) := by
  refine (shapeCast_apply (s := S16384x21x128) (t := S16384x2688) _ _ _
    (ix3 r (⟨k.val / 128, by omega⟩ : Fin 21) (⟨k.val % 128, by omega⟩ : Fin 128)) ?_).trans ?_
  · rw [Shape.rowMajor_val_three, Shape.rowMajor_val_two]
    show (r.val * 21 + k.val / 128) * 128 + k.val % 128 = r.val * 2688 + k.val
    omega
  · refine concatenate_pair_apply_left (t := S16384x21x128) (s₁ := S16384x20x128) (s₂ := S16384x1x128) 1 a t _ _ rfl _ fun b => ?_
    match b with
    | ⟨0, _⟩ => rfl
    | ⟨1, _⟩ => rfl
    | ⟨2, _⟩ => rfl

/-- The last 128 columns are the trace row's. -/
theorem flat_tr (a : FVec Ideal S16384x20x128 .f32) (t : FVec Ideal S16384x1x128 .f32) (r : Fin 16384) (k : Fin 128) :
    flat a t (ix2 r (⟨2560 + k.val, by omega⟩ : Fin 2688)) = t (ix3 r (0 : Fin 1) k) := by
  refine (shapeCast_apply (s := S16384x21x128) (t := S16384x2688) _ _ _ (ix3 r (⟨20, by omega⟩ : Fin 21) k) ?_).trans ?_
  · rw [Shape.rowMajor_val_three, Shape.rowMajor_val_two]
    show (r.val * 21 + 20) * 128 + k.val = r.val * 2688 + (2560 + k.val)
    omega
  · refine concatenate_pair_apply_right (t := S16384x21x128) (s₁ := S16384x20x128) (s₂ := S16384x1x128) 1 a t _ _ rfl rfl _ (fun b hb => ?_) rfl
    match b with
    | ⟨0, _⟩ => rfl
    | ⟨1, _⟩ => exact absurd rfl hb
    | ⟨2, _⟩ => rfl

/-- A sum over 2688 columns is the first 2560's and the last 128's. -/
theorem sum_split (f : Fin 2688 → EReal) : (∑ k, f k) = (∑ k : Fin 2560, f ⟨k.val, by omega⟩) + ∑ k : Fin 128, f ⟨2560 + k.val, by omega⟩ :=
  Fin.sum_univ_add (a := 2560) (b := 128) f

/-- The reference's logits at a row and column are the specification's. -/
theorem argLogits_apply (ht : ∀ i, (m ((c.tc : Thread nD τ).loc main_arg0) i : BitVec 32).toNat < 100000)
    (ha : ∀ i, (m ((c.tc : Thread nD τ).loc main_arg1) i : BitVec 32).toNat < 1000) (r : Fin 16384) (j : Fin 1000) :
    argLogits m c (ix2 r j) = logit (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) r j := by
  refine congrArg₂ (· + ·) ?_ ?_
  · refine (StackMember.dotGeneral_plain_apply (m := 16384) (k := 2688) (n := 1000) none _ _ r j).trans ((sum_split _).trans ?_)
    refine congrArg₂ (· + ·) (Finset.sum_congr rfl fun k _ => ?_) (Finset.sum_congr rfl fun k _ => ?_)
    · exact congrArg (· * _) ((flat_act _ _ r k).trans (takeA_apply _ ha _ r _ _))
    · exact congrArg (· * _) ((flat_tr _ _ r k).trans (takeT_apply _ ht _ r 0 k))
  · refine (broadcastInDim_apply (s := S1x1000) (t := S16384x1000) ![0, 1] _ _ (ix2 r j) (ix2 (0 : Fin 1) j) fun a => ?_).trans
      (broadcastInDim_apply (s := S1000) (t := S1x1000) ![1] _ _ (ix2 (0 : Fin 1) j) (ix1 j) fun a => ?_)
    · match a with
      | ⟨0, _⟩ => rfl
      | ⟨1, _⟩ => rfl
    · match a with
      | ⟨0, _⟩ => rfl

/-- One entry for each row, spread over the row's columns, is the row's entry. -/
theorem spread_apply {α : Type} (v : S16384.Idx → α) (r : Fin 16384) (j : Fin 1000) :
    broadcastInDim S16384x1000 ![0, 1] bcast_S16384x1_S16384x1000_0_1 (broadcastInDim S16384x1 ![0] bcast_S16384_S16384x1_0 v) (ix2 r j)
      = v (ix1 r) := by
  refine (broadcastInDim_apply (s := S16384x1) (t := S16384x1000) ![0, 1] _ _ (ix2 r j) (ix2 r (0 : Fin 1)) fun a => ?_).trans
    (broadcastInDim_apply (s := S16384) (t := S16384x1) ![0] _ _ (ix2 r (0 : Fin 1)) (ix1 r) fun a => ?_)
  · match a with
    | ⟨0, _⟩ => rfl
    | ⟨1, _⟩ => rfl
  · match a with
    | ⟨0, _⟩ => rfl

/-- A row of logits reduces to one entry. -/
theorem reduces_row : S16384x1000.Reduces [1] S16384 := by decide

/-- Row `r` with the summed column put back at `k` is entry `(r, k)`. -/
theorem lift_row (r : Fin 16384) (k : Fin 1000) : reduces_row.lift (ix1 r) k = ix2 r k := by
  funext a
  match a with
  | ⟨0, _⟩ => rfl
  | ⟨1, _⟩ => rfl

/-- The greatest entry of each row, spread over the row's places. -/
theorem rowTop_apply (x : FVec Ideal S16384x1000 .f32) (r : Fin 16384) (j : Fin 1000) :
    rowTop x (ix2 r j) = top fun k => x (ix2 r k) := by
  refine (spread_apply _ r j).trans ?_
  have e := Host.reduce_eq_fold_single (FloatOps.maximumf (F := Ideal) (φ := .f32)) x (constant S_ .f32 0xFF800000#32)
    reducesTo_S16384x1000_S16384_d1 reduces_row h_S_ (ix1 r)
  rw [maximumf_apply, e]
  have hl : (constant S_ .f32 0xFF800000#32 : FVec Ideal S_ .f32) (Shape.Idx.first h_S_) = (⊥ : EReal) := ofBits_least
  have hb : broadcastInDim S16384 ![] bcast_S_S16384 (constant S_ .f32 0xFF800000#32 : FVec Ideal S_ .f32) (ix1 r) = (⊥ : EReal) := ofBits_least
  rw [hl, hb]
  refine (bot_sup_eq _).trans ?_
  exact congrArg (Finset.fold max ⊥ · Finset.univ) (funext fun k => congrArg x (lift_row r k))

/-- The sum of each row, spread over the row's places. -/
theorem rowSum_apply (x : FVec Ideal S16384x1000 .f32) (r : Fin 16384) (j : Fin 1000) :
    rowSum x (ix2 r j) = (∑ k : Fin 1000, x (ix2 r k) : EReal) := by
  refine (spread_apply _ r j).trans ?_
  have hz : (constant S_ .f32 0x00000000#32 : FVec Ideal S_ .f32) (Shape.Idx.first h_S_) = (0 : EReal) := Ideal.ofBits_zero_f32
  refine (Ideal.hostReduceAdd_single reducesTo_S16384x1000_S16384_d1 reduces_row x _ (ix1 r)).trans ?_
  refine (congrArg₂ (· + ·) hz (Finset.sum_congr rfl fun k _ => congrArg x (lift_row r k))).trans (zero_add _)

/-- The host's division at an index. -/
theorem hostDivf_apply (x y : FVec Ideal S16384x1000 .f32) (i : S16384x1000.Idx) : Host.divf x y i = Ideal.div (x i) (y i) := rfl

/-- The reference's result is the specification's of the arguments. -/
theorem result_eq (ht : ∀ i, (m ((c.tc : Thread nD τ).loc main_arg0) i : BitVec 32).toNat < 100000)
    (ha : ∀ i, (m ((c.tc : Thread nD τ).loc main_arg1) i : BitVec 32).toNat < 1000) :
    (res_main_v18 m c : S16384x1000.Idx → EReal) = answer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  funext i
  obtain ⟨r, j, rfl⟩ : ∃ (r : Fin 16384) (j : Fin 1000), i = ix2 r j := ⟨i 0, i 1, ValueIdx.eq_ix2 i⟩
  rw [res_eq]
  have hl : (fun k => argLogits m c (ix2 r k)) = logit (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) r := funext fun k => argLogits_apply m c ht ha r k
  have hx : ∀ k : Fin 1000, Host.exp (subf (argLogits m c) (rowTop (argLogits m c))) (ix2 r k)
      = Ideal.exp (argLogits m c (ix2 r k) - top fun k => argLogits m c (ix2 r k)) := fun k => by
    rw [← rowTop_apply _ r k]; rfl
  have hs : rowSum (Host.exp (subf (argLogits m c) (rowTop (argLogits m c)))) (ix2 r j)
      = ∑ k : Fin 1000, Ideal.exp (argLogits m c (ix2 r k) - top fun k => argLogits m c (ix2 r k)) :=
    (rowSum_apply _ r j).trans (Finset.sum_congr rfl fun k _ => hx k)
  refine (hostDivf_apply _ _ _).trans ?_
  rw [hx, hs]
  exact congrArg (soft · j) hl

end Cert.ReferenceIdeal.Value

end
-- ==== Proof.Value.lean ====
/-
  The value claim: from row numbers in range the kernel and the reference end with the same result, the specification's of the arguments,
  and with their arguments as they were.
-/
module

public import proofs.«01_k».proof.Proof.Blk
public import proofs.«01_k».proof.Proof.RefVal

@[expose] public section

noncomputable section

namespace Cert.Soft

open Idealize.ShloMosaic Idealize.ShloMosaic.TcCoe Idealize.SL.Sem

/-- The kernel's value claim. -/
theorem algebraic : Cert.algebraic_KernelIdeal_ReferenceIdeal := by
  intro m g m' g' hpre hargs
  have ht := fun d => (Cert.Range.of_pre _ _ _ _ _ _ (hpre d)).1
  have ha := fun d => (Cert.Range.of_pre _ _ _ _ _ _ (hpre d)).2
  refine ⟨fun c => Cert.KernelIdeal.Sc.W4 m c (Proc.devRef .tc Cert.KernelIdeal.main_v9), ?_, ?_⟩
  · exact (θ_run _ _ _).mono (fun _ h => h.1) (Cert.KernelIdeal.Sc.run_args (F := Ideal) m g ht ha)
  · refine (θ_run _ _ _).mono (fun _ h c => ⟨(h c).1.trans ?_, (h c).2⟩) (Cert.ReferenceIdeal.Value.run (F := Ideal) m' g')
    obtain ⟨e0, e1, e2, e3, e4, e5⟩ := hargs c
    refine (Cert.ReferenceIdeal.Value.result_eq m' c (fun i => ?_) fun i => ?_).trans ?_
    · rw [e0]; exact ht c i
    · rw [e1]; exact ha c i
    · rw [e0, e1, e2, e3, e4, e5]
      exact (Cert.KernelIdeal.Sc.result_eq m c).symm

end Cert.Soft

end
-- ==== Proof.lean ====
/-
  The certificate: the kernel's frames, the reference's, and the value claim, each from its own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import Idealize.ShloMosaic.Adequacy
public import Idealize.ShloMosaic.Init
public import proofs.«01_k».proof.Proof.FrameK
public import proofs.«01_k».proof.Proof.FrameKI
public import proofs.«01_k».proof.Proof.RefRun
public import proofs.«01_k».proof.Proof.Value

@[expose] public section

noncomputable section

namespace Cert.Proof

open Idealize.ShloMosaic Idealize.SL.Sem Cert.Kernel

/-- Every claim: the three frames (the reference's also from row numbers in range), the ideal program's being the program itself, and
    the kernel's result being the reference's. -/
theorem claim : Cert.Claim :=
  ⟨Cert.Kernel.Gen.facts, Cert.KernelIdeal.Gen.facts, Cert.ReferenceIdeal.Gen.facts, Cert.Pre_in_range.Gen.facts,
    Cert.Kernel.Sc.frame, Cert.KernelIdeal.Sc.frame, Cert.ReferenceIdeal.Value.frame, Cert.ReferenceIdeal.Value.frame_in_range, trivial,
    Cert.Soft.algebraic⟩

end Cert.Proof

end
